-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_InprojA (m : (ℓ : Loc Cert.InprojA.nD Cert.InprojA.τ Cert.InprojA.sig) → Buf (Elt Bits) ℓ) : Prop :=
  True

def Pre_InprojAIdeal (m : (ℓ : Loc Cert.InprojAIdeal.nD Cert.InprojAIdeal.τ Cert.InprojAIdeal.sig) → Buf (Elt Ideal) ℓ) : Prop :=
  True

def Pre_InprojArefIdeal (m : (ℓ : Loc Cert.InprojArefIdeal.nD Cert.InprojArefIdeal.τ Cert.InprojArefIdeal.sig) → Buf (Elt Ideal) ℓ) : Prop :=
  True

def Pre_InprojB (m : (ℓ : Loc Cert.InprojB.nD Cert.InprojB.τ Cert.InprojB.sig) → Buf (Elt Bits) ℓ) : Prop :=
  True

def Pre_InprojBIdeal (m : (ℓ : Loc Cert.InprojBIdeal.nD Cert.InprojBIdeal.τ Cert.InprojBIdeal.sig) → Buf (Elt Ideal) ℓ) : Prop :=
  True

def Pre_InprojBrefIdeal (m : (ℓ : Loc Cert.InprojBrefIdeal.nD Cert.InprojBrefIdeal.τ Cert.InprojBrefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojrefIdeal (m : (ℓ : Loc Cert.OutprojrefIdeal.nD Cert.OutprojrefIdeal.τ Cert.OutprojrefIdeal.sig) → Buf (Elt Ideal) ℓ) : Prop :=
  True

def Pre_Outfinal (m : (ℓ : Loc Cert.Outfinal.nD Cert.Outfinal.τ Cert.Outfinal.sig) → Buf (Elt Bits) ℓ) : Prop :=
  True

def Pre_OutfinalIdeal (m : (ℓ : Loc Cert.OutfinalIdeal.nD Cert.OutfinalIdeal.τ Cert.OutfinalIdeal.sig) → Buf (Elt Ideal) ℓ) : Prop :=
  True

def Pre_OutfinalrefIdeal (m : (ℓ : Loc Cert.OutfinalrefIdeal.nD Cert.OutfinalrefIdeal.τ Cert.OutfinalrefIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationrefIdeal (m : (ℓ : Loc Cert.ModulationrefIdeal.nD Cert.ModulationrefIdeal.τ Cert.ModulationrefIdeal.sig) → Buf (Elt Ideal) ℓ) : Prop :=
  True

def Pre_Modulate (m : (ℓ : Loc Cert.Modulate.nD Cert.Modulate.τ Cert.Modulate.sig) → Buf (Elt Bits) ℓ) : Prop :=
  True

def Pre_ModulateIdeal (m : (ℓ : Loc Cert.ModulateIdeal.nD Cert.ModulateIdeal.τ Cert.ModulateIdeal.sig) → Buf (Elt Ideal) ℓ) : Prop :=
  True

def Pre_ModulaterefIdeal (m : (ℓ : Loc Cert.ModulaterefIdeal.nD Cert.ModulaterefIdeal.τ Cert.ModulaterefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_InprojA [hInprojA : Cert.InprojA.Facts] : Prop :=
  ∀ (m : (ℓ : Loc Cert.InprojA.nD Cert.InprojA.τ Cert.InprojA.sig) → Buf (Elt Bits) ℓ) (g : Dev Cert.InprojA.nD → PrngReg), Pre_InprojA m →
    θ_run (Cert.InprojA.defs (F := Bits)) (onTc (τ := Cert.InprojA.τ) (Cert.InprojA.main (F := Bits))) ⟨m, fun _ => 0, g⟩ (fun r => (∀ c : Dev Cert.InprojA.nD,
      r.2.mem ((c.tc : Thread Cert.InprojA.nD Cert.InprojA.τ).loc Cert.InprojA.main_arg0) = m ((c.tc : Thread Cert.InprojA.nD Cert.InprojA.τ).loc Cert.InprojA.main_arg0)
      ∧ r.2.mem ((c.tc : Thread Cert.InprojA.nD Cert.InprojA.τ).loc Cert.InprojA.main_arg1) = m ((c.tc : Thread Cert.InprojA.nD Cert.InprojA.τ).loc Cert.InprojA.main_arg1))
      ∧ r.2.sem = fun _ => 0)

def quiescent_InprojAIdeal [hInprojAIdeal : Cert.InprojAIdeal.Facts] : Prop :=
  ∀ (m : (ℓ : Loc Cert.InprojAIdeal.nD Cert.InprojAIdeal.τ Cert.InprojAIdeal.sig) → Buf (Elt Ideal) ℓ) (g : Dev Cert.InprojAIdeal.nD → PrngReg), Pre_InprojAIdeal m →
    θ_run (Cert.InprojAIdeal.defs (F := Ideal)) (onTc (τ := Cert.InprojAIdeal.τ) (Cert.InprojAIdeal.main (F := Ideal))) ⟨m, fun _ => 0, g⟩ (fun r => (∀ c : Dev Cert.InprojAIdeal.nD,
      r.2.mem ((c.tc : Thread Cert.InprojAIdeal.nD Cert.InprojAIdeal.τ).loc Cert.InprojAIdeal.main_arg0) = m ((c.tc : Thread Cert.InprojAIdeal.nD Cert.InprojAIdeal.τ).loc Cert.InprojAIdeal.main_arg0)
      ∧ r.2.mem ((c.tc : Thread Cert.InprojAIdeal.nD Cert.InprojAIdeal.τ).loc Cert.InprojAIdeal.main_arg1) = m ((c.tc : Thread Cert.InprojAIdeal.nD Cert.InprojAIdeal.τ).loc Cert.InprojAIdeal.main_arg1))
      ∧ r.2.sem = fun _ => 0)

def quiescent_InprojArefIdeal [hInprojArefIdeal : Cert.InprojArefIdeal.Facts] : Prop :=
  ∀ (m : (ℓ : Loc Cert.InprojArefIdeal.nD Cert.InprojArefIdeal.τ Cert.InprojArefIdeal.sig) → Buf (Elt Ideal) ℓ) (g : Dev Cert.InprojArefIdeal.nD → PrngReg), Pre_InprojArefIdeal m →
    θ_run (Cert.InprojArefIdeal.defs (F := Ideal)) (onTc (τ := Cert.InprojArefIdeal.τ) (Cert.InprojArefIdeal.main (F := Ideal))) ⟨m, fun _ => 0, g⟩ (fun r => (∀ c : Dev Cert.InprojArefIdeal.nD,
      r.2.mem ((c.tc : Thread Cert.InprojArefIdeal.nD Cert.InprojArefIdeal.τ).loc Cert.InprojArefIdeal.main_arg0) = m ((c.tc : Thread Cert.InprojArefIdeal.nD Cert.InprojArefIdeal.τ).loc Cert.InprojArefIdeal.main_arg0)
      ∧ r.2.mem ((c.tc : Thread Cert.InprojArefIdeal.nD Cert.InprojArefIdeal.τ).loc Cert.InprojArefIdeal.main_arg1) = m ((c.tc : Thread Cert.InprojArefIdeal.nD Cert.InprojArefIdeal.τ).loc Cert.InprojArefIdeal.main_arg1))
      ∧ r.2.sem = fun _ => 0)

def quiescent_InprojB [hInprojB : Cert.InprojB.Facts] : Prop :=
  ∀ (m : (ℓ : Loc Cert.InprojB.nD Cert.InprojB.τ Cert.InprojB.sig) → Buf (Elt Bits) ℓ) (g : Dev Cert.InprojB.nD → PrngReg), Pre_InprojB m →
    θ_run (Cert.InprojB.defs (F := Bits)) (onTc (τ := Cert.InprojB.τ) (Cert.InprojB.main (F := Bits))) ⟨m, fun _ => 0, g⟩ (fun r => (∀ c : Dev Cert.InprojB.nD,
      r.2.mem ((c.tc : Thread Cert.InprojB.nD Cert.InprojB.τ).loc Cert.InprojB.main_arg0) = m ((c.tc : Thread Cert.InprojB.nD Cert.InprojB.τ).loc Cert.InprojB.main_arg0)
      ∧ r.2.mem ((c.tc : Thread Cert.InprojB.nD Cert.InprojB.τ).loc Cert.InprojB.main_arg1) = m ((c.tc : Thread Cert.InprojB.nD Cert.InprojB.τ).loc Cert.InprojB.main_arg1))
      ∧ r.2.sem = fun _ => 0)

def quiescent_InprojBIdeal [hInprojBIdeal : Cert.InprojBIdeal.Facts] : Prop :=
  ∀ (m : (ℓ : Loc Cert.InprojBIdeal.nD Cert.InprojBIdeal.τ Cert.InprojBIdeal.sig) → Buf (Elt Ideal) ℓ) (g : Dev Cert.InprojBIdeal.nD → PrngReg), Pre_InprojBIdeal m →
    θ_run (Cert.InprojBIdeal.defs (F := Ideal)) (onTc (τ := Cert.InprojBIdeal.τ) (Cert.InprojBIdeal.main (F := Ideal))) ⟨m, fun _ => 0, g⟩ (fun r => (∀ c : Dev Cert.InprojBIdeal.nD,
      r.2.mem ((c.tc : Thread Cert.InprojBIdeal.nD Cert.InprojBIdeal.τ).loc Cert.InprojBIdeal.main_arg0) = m ((c.tc : Thread Cert.InprojBIdeal.nD Cert.InprojBIdeal.τ).loc Cert.InprojBIdeal.main_arg0)
      ∧ r.2.mem ((c.tc : Thread Cert.InprojBIdeal.nD Cert.InprojBIdeal.τ).loc Cert.InprojBIdeal.main_arg1) = m ((c.tc : Thread Cert.InprojBIdeal.nD Cert.InprojBIdeal.τ).loc Cert.InprojBIdeal.main_arg1))
      ∧ r.2.sem = fun _ => 0)

def quiescent_InprojBrefIdeal [hInprojBrefIdeal : Cert.InprojBrefIdeal.Facts] : Prop :=
  ∀ (m : (ℓ : Loc Cert.InprojBrefIdeal.nD Cert.InprojBrefIdeal.τ Cert.InprojBrefIdeal.sig) → Buf (Elt Ideal) ℓ) (g : Dev Cert.InprojBrefIdeal.nD → PrngReg), Pre_InprojBrefIdeal m →
    θ_run (Cert.InprojBrefIdeal.defs (F := Ideal)) (onTc (τ := Cert.InprojBrefIdeal.τ) (Cert.InprojBrefIdeal.main (F := Ideal))) ⟨m, fun _ => 0, g⟩ (fun r => (∀ c : Dev Cert.InprojBrefIdeal.nD,
      r.2.mem ((c.tc : Thread Cert.InprojBrefIdeal.nD Cert.InprojBrefIdeal.τ).loc Cert.InprojBrefIdeal.main_arg0) = m ((c.tc : Thread Cert.InprojBrefIdeal.nD Cert.InprojBrefIdeal.τ).loc Cert.InprojBrefIdeal.main_arg0)
      ∧ r.2.mem ((c.tc : Thread Cert.InprojBrefIdeal.nD Cert.InprojBrefIdeal.τ).loc Cert.InprojBrefIdeal.main_arg1) = m ((c.tc : Thread Cert.InprojBrefIdeal.nD Cert.InprojBrefIdeal.τ).loc Cert.InprojBrefIdeal.main_arg1))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ r.2.sem = fun _ => 0)

def quiescent_OutprojrefIdeal [hOutprojrefIdeal : Cert.OutprojrefIdeal.Facts] : Prop :=
  ∀ (m : (ℓ : Loc Cert.OutprojrefIdeal.nD Cert.OutprojrefIdeal.τ Cert.OutprojrefIdeal.sig) → Buf (Elt Ideal) ℓ) (g : Dev Cert.OutprojrefIdeal.nD → PrngReg), Pre_OutprojrefIdeal m →
    θ_run (Cert.OutprojrefIdeal.defs (F := Ideal)) (onTc (τ := Cert.OutprojrefIdeal.τ) (Cert.OutprojrefIdeal.main (F := Ideal))) ⟨m, fun _ => 0, g⟩ (fun r => (∀ c : Dev Cert.OutprojrefIdeal.nD,
      r.2.mem ((c.tc : Thread Cert.OutprojrefIdeal.nD Cert.OutprojrefIdeal.τ).loc Cert.OutprojrefIdeal.main_arg0) = m ((c.tc : Thread Cert.OutprojrefIdeal.nD Cert.OutprojrefIdeal.τ).loc Cert.OutprojrefIdeal.main_arg0)
      ∧ r.2.mem ((c.tc : Thread Cert.OutprojrefIdeal.nD Cert.OutprojrefIdeal.τ).loc Cert.OutprojrefIdeal.main_arg1) = m ((c.tc : Thread Cert.OutprojrefIdeal.nD Cert.OutprojrefIdeal.τ).loc Cert.OutprojrefIdeal.main_arg1)
      ∧ r.2.mem ((c.tc : Thread Cert.OutprojrefIdeal.nD Cert.OutprojrefIdeal.τ).loc Cert.OutprojrefIdeal.main_arg2) = m ((c.tc : Thread Cert.OutprojrefIdeal.nD Cert.OutprojrefIdeal.τ).loc Cert.OutprojrefIdeal.main_arg2)
      ∧ r.2.mem ((c.tc : Thread Cert.OutprojrefIdeal.nD Cert.OutprojrefIdeal.τ).loc Cert.OutprojrefIdeal.main_arg3) = m ((c.tc : Thread Cert.OutprojrefIdeal.nD Cert.OutprojrefIdeal.τ).loc Cert.OutprojrefIdeal.main_arg3))
      ∧ r.2.sem = fun _ => 0)

def quiescent_Outfinal [hOutfinal : Cert.Outfinal.Facts] : Prop :=
  ∀ (m : (ℓ : Loc Cert.Outfinal.nD Cert.Outfinal.τ Cert.Outfinal.sig) → Buf (Elt Bits) ℓ) (g : Dev Cert.Outfinal.nD → PrngReg), Pre_Outfinal m →
    θ_run (Cert.Outfinal.defs (F := Bits)) (onTc (τ := Cert.Outfinal.τ) (Cert.Outfinal.main (F := Bits))) ⟨m, fun _ => 0, g⟩ (fun r => (∀ c : Dev Cert.Outfinal.nD,
      r.2.mem ((c.tc : Thread Cert.Outfinal.nD Cert.Outfinal.τ).loc Cert.Outfinal.main_arg0) = m ((c.tc : Thread Cert.Outfinal.nD Cert.Outfinal.τ).loc Cert.Outfinal.main_arg0)
      ∧ r.2.mem ((c.tc : Thread Cert.Outfinal.nD Cert.Outfinal.τ).loc Cert.Outfinal.main_arg1) = m ((c.tc : Thread Cert.Outfinal.nD Cert.Outfinal.τ).loc Cert.Outfinal.main_arg1)
      ∧ r.2.mem ((c.tc : Thread Cert.Outfinal.nD Cert.Outfinal.τ).loc Cert.Outfinal.main_arg2) = m ((c.tc : Thread Cert.Outfinal.nD Cert.Outfinal.τ).loc Cert.Outfinal.main_arg2)
      ∧ r.2.mem ((c.tc : Thread Cert.Outfinal.nD Cert.Outfinal.τ).loc Cert.Outfinal.main_arg3) = m ((c.tc : Thread Cert.Outfinal.nD Cert.Outfinal.τ).loc Cert.Outfinal.main_arg3)
      ∧ r.2.mem ((c.tc : Thread Cert.Outfinal.nD Cert.Outfinal.τ).loc Cert.Outfinal.main_arg4) = m ((c.tc : Thread Cert.Outfinal.nD Cert.Outfinal.τ).loc Cert.Outfinal.main_arg4))
      ∧ r.2.sem = fun _ => 0)

def quiescent_OutfinalIdeal [hOutfinalIdeal : Cert.OutfinalIdeal.Facts] : Prop :=
  ∀ (m : (ℓ : Loc Cert.OutfinalIdeal.nD Cert.OutfinalIdeal.τ Cert.OutfinalIdeal.sig) → Buf (Elt Ideal) ℓ) (g : Dev Cert.OutfinalIdeal.nD → PrngReg), Pre_OutfinalIdeal m →
    θ_run (Cert.OutfinalIdeal.defs (F := Ideal)) (onTc (τ := Cert.OutfinalIdeal.τ) (Cert.OutfinalIdeal.main (F := Ideal))) ⟨m, fun _ => 0, g⟩ (fun r => (∀ c : Dev Cert.OutfinalIdeal.nD,
      r.2.mem ((c.tc : Thread Cert.OutfinalIdeal.nD Cert.OutfinalIdeal.τ).loc Cert.OutfinalIdeal.main_arg0) = m ((c.tc : Thread Cert.OutfinalIdeal.nD Cert.OutfinalIdeal.τ).loc Cert.OutfinalIdeal.main_arg0)
      ∧ r.2.mem ((c.tc : Thread Cert.OutfinalIdeal.nD Cert.OutfinalIdeal.τ).loc Cert.OutfinalIdeal.main_arg1) = m ((c.tc : Thread Cert.OutfinalIdeal.nD Cert.OutfinalIdeal.τ).loc Cert.OutfinalIdeal.main_arg1)
      ∧ r.2.mem ((c.tc : Thread Cert.OutfinalIdeal.nD Cert.OutfinalIdeal.τ).loc Cert.OutfinalIdeal.main_arg2) = m ((c.tc : Thread Cert.OutfinalIdeal.nD Cert.OutfinalIdeal.τ).loc Cert.OutfinalIdeal.main_arg2)
      ∧ r.2.mem ((c.tc : Thread Cert.OutfinalIdeal.nD Cert.OutfinalIdeal.τ).loc Cert.OutfinalIdeal.main_arg3) = m ((c.tc : Thread Cert.OutfinalIdeal.nD Cert.OutfinalIdeal.τ).loc Cert.OutfinalIdeal.main_arg3)
      ∧ r.2.mem ((c.tc : Thread Cert.OutfinalIdeal.nD Cert.OutfinalIdeal.τ).loc Cert.OutfinalIdeal.main_arg4) = m ((c.tc : Thread Cert.OutfinalIdeal.nD Cert.OutfinalIdeal.τ).loc Cert.OutfinalIdeal.main_arg4))
      ∧ r.2.sem = fun _ => 0)

def quiescent_OutfinalrefIdeal [hOutfinalrefIdeal : Cert.OutfinalrefIdeal.Facts] : Prop :=
  ∀ (m : (ℓ : Loc Cert.OutfinalrefIdeal.nD Cert.OutfinalrefIdeal.τ Cert.OutfinalrefIdeal.sig) → Buf (Elt Ideal) ℓ) (g : Dev Cert.OutfinalrefIdeal.nD → PrngReg), Pre_OutfinalrefIdeal m →
    θ_run (Cert.OutfinalrefIdeal.defs (F := Ideal)) (onTc (τ := Cert.OutfinalrefIdeal.τ) (Cert.OutfinalrefIdeal.main (F := Ideal))) ⟨m, fun _ => 0, g⟩ (fun r => (∀ c : Dev Cert.OutfinalrefIdeal.nD,
      r.2.mem ((c.tc : Thread Cert.OutfinalrefIdeal.nD Cert.OutfinalrefIdeal.τ).loc Cert.OutfinalrefIdeal.main_arg0) = m ((c.tc : Thread Cert.OutfinalrefIdeal.nD Cert.OutfinalrefIdeal.τ).loc Cert.OutfinalrefIdeal.main_arg0)
      ∧ r.2.mem ((c.tc : Thread Cert.OutfinalrefIdeal.nD Cert.OutfinalrefIdeal.τ).loc Cert.OutfinalrefIdeal.main_arg1) = m ((c.tc : Thread Cert.OutfinalrefIdeal.nD Cert.OutfinalrefIdeal.τ).loc Cert.OutfinalrefIdeal.main_arg1)
      ∧ r.2.mem ((c.tc : Thread Cert.OutfinalrefIdeal.nD Cert.OutfinalrefIdeal.τ).loc Cert.OutfinalrefIdeal.main_arg2) = m ((c.tc : Thread Cert.OutfinalrefIdeal.nD Cert.OutfinalrefIdeal.τ).loc Cert.OutfinalrefIdeal.main_arg2)
      ∧ r.2.mem ((c.tc : Thread Cert.OutfinalrefIdeal.nD Cert.OutfinalrefIdeal.τ).loc Cert.OutfinalrefIdeal.main_arg3) = m ((c.tc : Thread Cert.OutfinalrefIdeal.nD Cert.OutfinalrefIdeal.τ).loc Cert.OutfinalrefIdeal.main_arg3)
      ∧ r.2.mem ((c.tc : Thread Cert.OutfinalrefIdeal.nD Cert.OutfinalrefIdeal.τ).loc Cert.OutfinalrefIdeal.main_arg4) = m ((c.tc : Thread Cert.OutfinalrefIdeal.nD Cert.OutfinalrefIdeal.τ).loc Cert.OutfinalrefIdeal.main_arg4))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationrefIdeal [hModulationrefIdeal : Cert.ModulationrefIdeal.Facts] : Prop :=
  ∀ (m : (ℓ : Loc Cert.ModulationrefIdeal.nD Cert.ModulationrefIdeal.τ Cert.ModulationrefIdeal.sig) → Buf (Elt Ideal) ℓ) (g : Dev Cert.ModulationrefIdeal.nD → PrngReg), Pre_ModulationrefIdeal m →
    θ_run (Cert.ModulationrefIdeal.defs (F := Ideal)) (onTc (τ := Cert.ModulationrefIdeal.τ) (Cert.ModulationrefIdeal.main (F := Ideal))) ⟨m, fun _ => 0, g⟩ (fun r => (∀ c : Dev Cert.ModulationrefIdeal.nD,
      r.2.mem ((c.tc : Thread Cert.ModulationrefIdeal.nD Cert.ModulationrefIdeal.τ).loc Cert.ModulationrefIdeal.main_arg0) = m ((c.tc : Thread Cert.ModulationrefIdeal.nD Cert.ModulationrefIdeal.τ).loc Cert.ModulationrefIdeal.main_arg0)
      ∧ r.2.mem ((c.tc : Thread Cert.ModulationrefIdeal.nD Cert.ModulationrefIdeal.τ).loc Cert.ModulationrefIdeal.main_arg1) = m ((c.tc : Thread Cert.ModulationrefIdeal.nD Cert.ModulationrefIdeal.τ).loc Cert.ModulationrefIdeal.main_arg1)
      ∧ r.2.mem ((c.tc : Thread Cert.ModulationrefIdeal.nD Cert.ModulationrefIdeal.τ).loc Cert.ModulationrefIdeal.main_arg2) = m ((c.tc : Thread Cert.ModulationrefIdeal.nD Cert.ModulationrefIdeal.τ).loc Cert.ModulationrefIdeal.main_arg2))
      ∧ r.2.sem = fun _ => 0)

def quiescent_Modulate [hModulate : Cert.Modulate.Facts] : Prop :=
  ∀ (m : (ℓ : Loc Cert.Modulate.nD Cert.Modulate.τ Cert.Modulate.sig) → Buf (Elt Bits) ℓ) (g : Dev Cert.Modulate.nD → PrngReg), Pre_Modulate m →
    θ_run (Cert.Modulate.defs (F := Bits)) (onTc (τ := Cert.Modulate.τ) (Cert.Modulate.main (F := Bits))) ⟨m, fun _ => 0, g⟩ (fun r => (∀ c : Dev Cert.Modulate.nD,
      r.2.mem ((c.tc : Thread Cert.Modulate.nD Cert.Modulate.τ).loc Cert.Modulate.main_arg0) = m ((c.tc : Thread Cert.Modulate.nD Cert.Modulate.τ).loc Cert.Modulate.main_arg0)
      ∧ r.2.mem ((c.tc : Thread Cert.Modulate.nD Cert.Modulate.τ).loc Cert.Modulate.main_arg1) = m ((c.tc : Thread Cert.Modulate.nD Cert.Modulate.τ).loc Cert.Modulate.main_arg1)
      ∧ r.2.mem ((c.tc : Thread Cert.Modulate.nD Cert.Modulate.τ).loc Cert.Modulate.main_arg2) = m ((c.tc : Thread Cert.Modulate.nD Cert.Modulate.τ).loc Cert.Modulate.main_arg2))
      ∧ r.2.sem = fun _ => 0)

def quiescent_ModulateIdeal [hModulateIdeal : Cert.ModulateIdeal.Facts] : Prop :=
  ∀ (m : (ℓ : Loc Cert.ModulateIdeal.nD Cert.ModulateIdeal.τ Cert.ModulateIdeal.sig) → Buf (Elt Ideal) ℓ) (g : Dev Cert.ModulateIdeal.nD → PrngReg), Pre_ModulateIdeal m →
    θ_run (Cert.ModulateIdeal.defs (F := Ideal)) (onTc (τ := Cert.ModulateIdeal.τ) (Cert.ModulateIdeal.main (F := Ideal))) ⟨m, fun _ => 0, g⟩ (fun r => (∀ c : Dev Cert.ModulateIdeal.nD,
      r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
      ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
      ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2))
      ∧ r.2.sem = fun _ => 0)

def quiescent_ModulaterefIdeal [hModulaterefIdeal : Cert.ModulaterefIdeal.Facts] : Prop :=
  ∀ (m : (ℓ : Loc Cert.ModulaterefIdeal.nD Cert.ModulaterefIdeal.τ Cert.ModulaterefIdeal.sig) → Buf (Elt Ideal) ℓ) (g : Dev Cert.ModulaterefIdeal.nD → PrngReg), Pre_ModulaterefIdeal m →
    θ_run (Cert.ModulaterefIdeal.defs (F := Ideal)) (onTc (τ := Cert.ModulaterefIdeal.τ) (Cert.ModulaterefIdeal.main (F := Ideal))) ⟨m, fun _ => 0, g⟩ (fun r => (∀ c : Dev Cert.ModulaterefIdeal.nD,
      r.2.mem ((c.tc : Thread Cert.ModulaterefIdeal.nD Cert.ModulaterefIdeal.τ).loc Cert.ModulaterefIdeal.main_arg0) = m ((c.tc : Thread Cert.ModulaterefIdeal.nD Cert.ModulaterefIdeal.τ).loc Cert.ModulaterefIdeal.main_arg0)
      ∧ r.2.mem ((c.tc : Thread Cert.ModulaterefIdeal.nD Cert.ModulaterefIdeal.τ).loc Cert.ModulaterefIdeal.main_arg1) = m ((c.tc : Thread Cert.ModulaterefIdeal.nD Cert.ModulaterefIdeal.τ).loc Cert.ModulaterefIdeal.main_arg1)
      ∧ r.2.mem ((c.tc : Thread Cert.ModulaterefIdeal.nD Cert.ModulaterefIdeal.τ).loc Cert.ModulaterefIdeal.main_arg2) = m ((c.tc : Thread Cert.ModulaterefIdeal.nD Cert.ModulaterefIdeal.τ).loc Cert.ModulaterefIdeal.main_arg2))
      ∧ r.2.sem = fun _ => 0)

def preserves_Kernel_KernelIdeal : Prop :=
  IdealRules.named_const.Statement Cert.KernelIdeal.κ "scale" .f32 0x3DB504F3#32 (((Real.sqrt 128)⁻¹ : ℝ) : EReal)
  ∧ IdealRules.named_const.Statement Cert.KernelIdeal.κ "mask" .f32 0xF149F2CA#32 ⊥
  ∧ IdealRules.named_const.Statement Cert.KernelIdeal.κ "exp2_scale" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_InprojA_InprojAIdeal : Prop :=
  True

def algebraic_InprojAIdeal_InprojArefIdeal [hInprojAIdeal : Cert.InprojAIdeal.Facts] [hInprojArefIdeal : Cert.InprojArefIdeal.Facts] : Prop :=
  ∀ (m : (ℓ : Loc Cert.InprojAIdeal.nD Cert.InprojAIdeal.τ Cert.InprojAIdeal.sig) → Buf (Elt Ideal) ℓ) (g : Dev Cert.InprojAIdeal.nD → PrngReg)
    (m' : (ℓ : Loc Cert.InprojArefIdeal.nD Cert.InprojArefIdeal.τ Cert.InprojArefIdeal.sig) → Buf (Elt Ideal) ℓ) (g' : Dev Cert.InprojArefIdeal.nD → PrngReg), Pre_InprojAIdeal m →
    (∀ c : Dev Cert.InprojAIdeal.nD,
      m' ((c.tc : Thread Cert.InprojArefIdeal.nD Cert.InprojArefIdeal.τ).loc Cert.InprojArefIdeal.main_arg0) = m ((c.tc : Thread Cert.InprojAIdeal.nD Cert.InprojAIdeal.τ).loc Cert.InprojAIdeal.main_arg0)
      ∧ m' ((c.tc : Thread Cert.InprojArefIdeal.nD Cert.InprojArefIdeal.τ).loc Cert.InprojArefIdeal.main_arg1) = m ((c.tc : Thread Cert.InprojAIdeal.nD Cert.InprojAIdeal.τ).loc Cert.InprojAIdeal.main_arg1)) →
    ∃ (v0 : (c : Dev Cert.InprojAIdeal.nD) → Buf (Elt Ideal) ((c.tc : Thread Cert.InprojAIdeal.nD Cert.InprojAIdeal.τ).loc Cert.InprojAIdeal.main_v0)),
      θ_run (Cert.InprojAIdeal.defs (F := Ideal)) (onTc (τ := Cert.InprojAIdeal.τ) (Cert.InprojAIdeal.main (F := Ideal))) ⟨m, fun _ => 0, g⟩ (fun r => ∀ c : Dev Cert.InprojAIdeal.nD,
          r.2.mem ((c.tc : Thread Cert.InprojAIdeal.nD Cert.InprojAIdeal.τ).loc Cert.InprojAIdeal.main_v0) = v0 c
          ∧ r.2.mem ((c.tc : Thread Cert.InprojAIdeal.nD Cert.InprojAIdeal.τ).loc Cert.InprojAIdeal.main_arg0) = m ((c.tc : Thread Cert.InprojAIdeal.nD Cert.InprojAIdeal.τ).loc Cert.InprojAIdeal.main_arg0)
          ∧ r.2.mem ((c.tc : Thread Cert.InprojAIdeal.nD Cert.InprojAIdeal.τ).loc Cert.InprojAIdeal.main_arg1) = m ((c.tc : Thread Cert.InprojAIdeal.nD Cert.InprojAIdeal.τ).loc Cert.InprojAIdeal.main_arg1))
      ∧ θ_run (Cert.InprojArefIdeal.defs (F := Ideal)) (onTc (τ := Cert.InprojArefIdeal.τ) (Cert.InprojArefIdeal.main (F := Ideal))) ⟨m', fun _ => 0, g'⟩ (fun r => ∀ c : Dev Cert.InprojArefIdeal.nD,
          r.2.mem ((c.tc : Thread Cert.InprojArefIdeal.nD Cert.InprojArefIdeal.τ).loc Cert.InprojArefIdeal.main_v22) = v0 c
          ∧ r.2.mem ((c.tc : Thread Cert.InprojArefIdeal.nD Cert.InprojArefIdeal.τ).loc Cert.InprojArefIdeal.main_arg0) = m' ((c.tc : Thread Cert.InprojArefIdeal.nD Cert.InprojArefIdeal.τ).loc Cert.InprojArefIdeal.main_arg0)
          ∧ r.2.mem ((c.tc : Thread Cert.InprojArefIdeal.nD Cert.InprojArefIdeal.τ).loc Cert.InprojArefIdeal.main_arg1) = m' ((c.tc : Thread Cert.InprojArefIdeal.nD Cert.InprojArefIdeal.τ).loc Cert.InprojArefIdeal.main_arg1))

def preserves_InprojB_InprojBIdeal : Prop :=
  True

def algebraic_InprojBIdeal_InprojBrefIdeal [hInprojBIdeal : Cert.InprojBIdeal.Facts] [hInprojBrefIdeal : Cert.InprojBrefIdeal.Facts] : Prop :=
  ∀ (m : (ℓ : Loc Cert.InprojBIdeal.nD Cert.InprojBIdeal.τ Cert.InprojBIdeal.sig) → Buf (Elt Ideal) ℓ) (g : Dev Cert.InprojBIdeal.nD → PrngReg)
    (m' : (ℓ : Loc Cert.InprojBrefIdeal.nD Cert.InprojBrefIdeal.τ Cert.InprojBrefIdeal.sig) → Buf (Elt Ideal) ℓ) (g' : Dev Cert.InprojBrefIdeal.nD → PrngReg), Pre_InprojBIdeal m →
    (∀ c : Dev Cert.InprojBIdeal.nD,
      m' ((c.tc : Thread Cert.InprojBrefIdeal.nD Cert.InprojBrefIdeal.τ).loc Cert.InprojBrefIdeal.main_arg0) = m ((c.tc : Thread Cert.InprojBIdeal.nD Cert.InprojBIdeal.τ).loc Cert.InprojBIdeal.main_arg0)
      ∧ m' ((c.tc : Thread Cert.InprojBrefIdeal.nD Cert.InprojBrefIdeal.τ).loc Cert.InprojBrefIdeal.main_arg1) = m ((c.tc : Thread Cert.InprojBIdeal.nD Cert.InprojBIdeal.τ).loc Cert.InprojBIdeal.main_arg1)) →
    ∃ (v0 : (c : Dev Cert.InprojBIdeal.nD) → Buf (Elt Ideal) ((c.tc : Thread Cert.InprojBIdeal.nD Cert.InprojBIdeal.τ).loc Cert.InprojBIdeal.main_v0)),
      θ_run (Cert.InprojBIdeal.defs (F := Ideal)) (onTc (τ := Cert.InprojBIdeal.τ) (Cert.InprojBIdeal.main (F := Ideal))) ⟨m, fun _ => 0, g⟩ (fun r => ∀ c : Dev Cert.InprojBIdeal.nD,
          r.2.mem ((c.tc : Thread Cert.InprojBIdeal.nD Cert.InprojBIdeal.τ).loc Cert.InprojBIdeal.main_v0) = v0 c
          ∧ r.2.mem ((c.tc : Thread Cert.InprojBIdeal.nD Cert.InprojBIdeal.τ).loc Cert.InprojBIdeal.main_arg0) = m ((c.tc : Thread Cert.InprojBIdeal.nD Cert.InprojBIdeal.τ).loc Cert.InprojBIdeal.main_arg0)
          ∧ r.2.mem ((c.tc : Thread Cert.InprojBIdeal.nD Cert.InprojBIdeal.τ).loc Cert.InprojBIdeal.main_arg1) = m ((c.tc : Thread Cert.InprojBIdeal.nD Cert.InprojBIdeal.τ).loc Cert.InprojBIdeal.main_arg1))
      ∧ θ_run (Cert.InprojBrefIdeal.defs (F := Ideal)) (onTc (τ := Cert.InprojBrefIdeal.τ) (Cert.InprojBrefIdeal.main (F := Ideal))) ⟨m', fun _ => 0, g'⟩ (fun r => ∀ c : Dev Cert.InprojBrefIdeal.nD,
          r.2.mem ((c.tc : Thread Cert.InprojBrefIdeal.nD Cert.InprojBrefIdeal.τ).loc Cert.InprojBrefIdeal.main_v5) = v0 c
          ∧ r.2.mem ((c.tc : Thread Cert.InprojBrefIdeal.nD Cert.InprojBrefIdeal.τ).loc Cert.InprojBrefIdeal.main_arg0) = m' ((c.tc : Thread Cert.InprojBrefIdeal.nD Cert.InprojBrefIdeal.τ).loc Cert.InprojBrefIdeal.main_arg0)
          ∧ r.2.mem ((c.tc : Thread Cert.InprojBrefIdeal.nD Cert.InprojBrefIdeal.τ).loc Cert.InprojBrefIdeal.main_arg1) = m' ((c.tc : Thread Cert.InprojBrefIdeal.nD Cert.InprojBrefIdeal.τ).loc Cert.InprojBrefIdeal.main_arg1))

def preserves_Outproj_OutprojIdeal : Prop :=
  True

def algebraic_OutprojIdeal_OutprojrefIdeal [hOutprojIdeal : Cert.OutprojIdeal.Facts] [hOutprojrefIdeal : Cert.OutprojrefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojrefIdeal.nD Cert.OutprojrefIdeal.τ Cert.OutprojrefIdeal.sig) → Buf (Elt Ideal) ℓ) (g' : Dev Cert.OutprojrefIdeal.nD → PrngReg), Pre_OutprojIdeal m →
    (∀ c : Dev Cert.OutprojIdeal.nD,
      m' ((c.tc : Thread Cert.OutprojrefIdeal.nD Cert.OutprojrefIdeal.τ).loc Cert.OutprojrefIdeal.main_arg0) = m ((c.tc : Thread Cert.OutprojIdeal.nD Cert.OutprojIdeal.τ).loc Cert.OutprojIdeal.main_arg0)
      ∧ m' ((c.tc : Thread Cert.OutprojrefIdeal.nD Cert.OutprojrefIdeal.τ).loc Cert.OutprojrefIdeal.main_arg1) = m ((c.tc : Thread Cert.OutprojIdeal.nD Cert.OutprojIdeal.τ).loc Cert.OutprojIdeal.main_arg1)
      ∧ m' ((c.tc : Thread Cert.OutprojrefIdeal.nD Cert.OutprojrefIdeal.τ).loc Cert.OutprojrefIdeal.main_arg2) = m ((c.tc : Thread Cert.OutprojIdeal.nD Cert.OutprojIdeal.τ).loc Cert.OutprojIdeal.main_arg2)
      ∧ m' ((c.tc : Thread Cert.OutprojrefIdeal.nD Cert.OutprojrefIdeal.τ).loc Cert.OutprojrefIdeal.main_arg3) = m ((c.tc : Thread Cert.OutprojIdeal.nD Cert.OutprojIdeal.τ).loc Cert.OutprojIdeal.main_arg3)) →
    ∃ (v0 : (c : Dev Cert.OutprojIdeal.nD) → Buf (Elt Ideal) ((c.tc : Thread Cert.OutprojIdeal.nD Cert.OutprojIdeal.τ).loc Cert.OutprojIdeal.main_v0)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v0) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ θ_run (Cert.OutprojrefIdeal.defs (F := Ideal)) (onTc (τ := Cert.OutprojrefIdeal.τ) (Cert.OutprojrefIdeal.main (F := Ideal))) ⟨m', fun _ => 0, g'⟩ (fun r => ∀ c : Dev Cert.OutprojrefIdeal.nD,
          r.2.mem ((c.tc : Thread Cert.OutprojrefIdeal.nD Cert.OutprojrefIdeal.τ).loc Cert.OutprojrefIdeal.main_v12) = v0 c
          ∧ r.2.mem ((c.tc : Thread Cert.OutprojrefIdeal.nD Cert.OutprojrefIdeal.τ).loc Cert.OutprojrefIdeal.main_arg0) = m' ((c.tc : Thread Cert.OutprojrefIdeal.nD Cert.OutprojrefIdeal.τ).loc Cert.OutprojrefIdeal.main_arg0)
          ∧ r.2.mem ((c.tc : Thread Cert.OutprojrefIdeal.nD Cert.OutprojrefIdeal.τ).loc Cert.OutprojrefIdeal.main_arg1) = m' ((c.tc : Thread Cert.OutprojrefIdeal.nD Cert.OutprojrefIdeal.τ).loc Cert.OutprojrefIdeal.main_arg1)
          ∧ r.2.mem ((c.tc : Thread Cert.OutprojrefIdeal.nD Cert.OutprojrefIdeal.τ).loc Cert.OutprojrefIdeal.main_arg2) = m' ((c.tc : Thread Cert.OutprojrefIdeal.nD Cert.OutprojrefIdeal.τ).loc Cert.OutprojrefIdeal.main_arg2)
          ∧ r.2.mem ((c.tc : Thread Cert.OutprojrefIdeal.nD Cert.OutprojrefIdeal.τ).loc Cert.OutprojrefIdeal.main_arg3) = m' ((c.tc : Thread Cert.OutprojrefIdeal.nD Cert.OutprojrefIdeal.τ).loc Cert.OutprojrefIdeal.main_arg3))

def preserves_Outfinal_OutfinalIdeal : Prop :=
  True

def algebraic_OutfinalIdeal_OutfinalrefIdeal [hOutfinalIdeal : Cert.OutfinalIdeal.Facts] [hOutfinalrefIdeal : Cert.OutfinalrefIdeal.Facts] : Prop :=
  ∀ (m : (ℓ : Loc Cert.OutfinalIdeal.nD Cert.OutfinalIdeal.τ Cert.OutfinalIdeal.sig) → Buf (Elt Ideal) ℓ) (g : Dev Cert.OutfinalIdeal.nD → PrngReg)
    (m' : (ℓ : Loc Cert.OutfinalrefIdeal.nD Cert.OutfinalrefIdeal.τ Cert.OutfinalrefIdeal.sig) → Buf (Elt Ideal) ℓ) (g' : Dev Cert.OutfinalrefIdeal.nD → PrngReg), Pre_OutfinalIdeal m →
    (∀ c : Dev Cert.OutfinalIdeal.nD,
      m' ((c.tc : Thread Cert.OutfinalrefIdeal.nD Cert.OutfinalrefIdeal.τ).loc Cert.OutfinalrefIdeal.main_arg0) = m ((c.tc : Thread Cert.OutfinalIdeal.nD Cert.OutfinalIdeal.τ).loc Cert.OutfinalIdeal.main_arg0)
      ∧ m' ((c.tc : Thread Cert.OutfinalrefIdeal.nD Cert.OutfinalrefIdeal.τ).loc Cert.OutfinalrefIdeal.main_arg1) = m ((c.tc : Thread Cert.OutfinalIdeal.nD Cert.OutfinalIdeal.τ).loc Cert.OutfinalIdeal.main_arg1)
      ∧ m' ((c.tc : Thread Cert.OutfinalrefIdeal.nD Cert.OutfinalrefIdeal.τ).loc Cert.OutfinalrefIdeal.main_arg2) = m ((c.tc : Thread Cert.OutfinalIdeal.nD Cert.OutfinalIdeal.τ).loc Cert.OutfinalIdeal.main_arg2)
      ∧ m' ((c.tc : Thread Cert.OutfinalrefIdeal.nD Cert.OutfinalrefIdeal.τ).loc Cert.OutfinalrefIdeal.main_arg3) = m ((c.tc : Thread Cert.OutfinalIdeal.nD Cert.OutfinalIdeal.τ).loc Cert.OutfinalIdeal.main_arg3)
      ∧ m' ((c.tc : Thread Cert.OutfinalrefIdeal.nD Cert.OutfinalrefIdeal.τ).loc Cert.OutfinalrefIdeal.main_arg4) = m ((c.tc : Thread Cert.OutfinalIdeal.nD Cert.OutfinalIdeal.τ).loc Cert.OutfinalIdeal.main_arg4)) →
    ∃ (v0 : (c : Dev Cert.OutfinalIdeal.nD) → Buf (Elt Ideal) ((c.tc : Thread Cert.OutfinalIdeal.nD Cert.OutfinalIdeal.τ).loc Cert.OutfinalIdeal.main_v1)),
      θ_run (Cert.OutfinalIdeal.defs (F := Ideal)) (onTc (τ := Cert.OutfinalIdeal.τ) (Cert.OutfinalIdeal.main (F := Ideal))) ⟨m, fun _ => 0, g⟩ (fun r => ∀ c : Dev Cert.OutfinalIdeal.nD,
          r.2.mem ((c.tc : Thread Cert.OutfinalIdeal.nD Cert.OutfinalIdeal.τ).loc Cert.OutfinalIdeal.main_v1) = v0 c
          ∧ r.2.mem ((c.tc : Thread Cert.OutfinalIdeal.nD Cert.OutfinalIdeal.τ).loc Cert.OutfinalIdeal.main_arg0) = m ((c.tc : Thread Cert.OutfinalIdeal.nD Cert.OutfinalIdeal.τ).loc Cert.OutfinalIdeal.main_arg0)
          ∧ r.2.mem ((c.tc : Thread Cert.OutfinalIdeal.nD Cert.OutfinalIdeal.τ).loc Cert.OutfinalIdeal.main_arg1) = m ((c.tc : Thread Cert.OutfinalIdeal.nD Cert.OutfinalIdeal.τ).loc Cert.OutfinalIdeal.main_arg1)
          ∧ r.2.mem ((c.tc : Thread Cert.OutfinalIdeal.nD Cert.OutfinalIdeal.τ).loc Cert.OutfinalIdeal.main_arg2) = m ((c.tc : Thread Cert.OutfinalIdeal.nD Cert.OutfinalIdeal.τ).loc Cert.OutfinalIdeal.main_arg2)
          ∧ r.2.mem ((c.tc : Thread Cert.OutfinalIdeal.nD Cert.OutfinalIdeal.τ).loc Cert.OutfinalIdeal.main_arg3) = m ((c.tc : Thread Cert.OutfinalIdeal.nD Cert.OutfinalIdeal.τ).loc Cert.OutfinalIdeal.main_arg3)
          ∧ r.2.mem ((c.tc : Thread Cert.OutfinalIdeal.nD Cert.OutfinalIdeal.τ).loc Cert.OutfinalIdeal.main_arg4) = m ((c.tc : Thread Cert.OutfinalIdeal.nD Cert.OutfinalIdeal.τ).loc Cert.OutfinalIdeal.main_arg4))
      ∧ θ_run (Cert.OutfinalrefIdeal.defs (F := Ideal)) (onTc (τ := Cert.OutfinalrefIdeal.τ) (Cert.OutfinalrefIdeal.main (F := Ideal))) ⟨m', fun _ => 0, g'⟩ (fun r => ∀ c : Dev Cert.OutfinalrefIdeal.nD,
          r.2.mem ((c.tc : Thread Cert.OutfinalrefIdeal.nD Cert.OutfinalrefIdeal.τ).loc Cert.OutfinalrefIdeal.main_v25) = v0 c
          ∧ r.2.mem ((c.tc : Thread Cert.OutfinalrefIdeal.nD Cert.OutfinalrefIdeal.τ).loc Cert.OutfinalrefIdeal.main_arg0) = m' ((c.tc : Thread Cert.OutfinalrefIdeal.nD Cert.OutfinalrefIdeal.τ).loc Cert.OutfinalrefIdeal.main_arg0)
          ∧ r.2.mem ((c.tc : Thread Cert.OutfinalrefIdeal.nD Cert.OutfinalrefIdeal.τ).loc Cert.OutfinalrefIdeal.main_arg1) = m' ((c.tc : Thread Cert.OutfinalrefIdeal.nD Cert.OutfinalrefIdeal.τ).loc Cert.OutfinalrefIdeal.main_arg1)
          ∧ r.2.mem ((c.tc : Thread Cert.OutfinalrefIdeal.nD Cert.OutfinalrefIdeal.τ).loc Cert.OutfinalrefIdeal.main_arg2) = m' ((c.tc : Thread Cert.OutfinalrefIdeal.nD Cert.OutfinalrefIdeal.τ).loc Cert.OutfinalrefIdeal.main_arg2)
          ∧ r.2.mem ((c.tc : Thread Cert.OutfinalrefIdeal.nD Cert.OutfinalrefIdeal.τ).loc Cert.OutfinalrefIdeal.main_arg3) = m' ((c.tc : Thread Cert.OutfinalrefIdeal.nD Cert.OutfinalrefIdeal.τ).loc Cert.OutfinalrefIdeal.main_arg3)
          ∧ r.2.mem ((c.tc : Thread Cert.OutfinalrefIdeal.nD Cert.OutfinalrefIdeal.τ).loc Cert.OutfinalrefIdeal.main_arg4) = m' ((c.tc : Thread Cert.OutfinalrefIdeal.nD Cert.OutfinalrefIdeal.τ).loc Cert.OutfinalrefIdeal.main_arg4))

def preserves_Modulation_ModulationIdeal : Prop :=
  True

def algebraic_ModulationIdeal_ModulationrefIdeal [hModulationIdeal : Cert.ModulationIdeal.Facts] [hModulationrefIdeal : Cert.ModulationrefIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationrefIdeal.nD Cert.ModulationrefIdeal.τ Cert.ModulationrefIdeal.sig) → Buf (Elt Ideal) ℓ) (g' : Dev Cert.ModulationrefIdeal.nD → PrngReg), Pre_ModulationIdeal m →
    (∀ c : Dev Cert.ModulationIdeal.nD,
      m' ((c.tc : Thread Cert.ModulationrefIdeal.nD Cert.ModulationrefIdeal.τ).loc Cert.ModulationrefIdeal.main_arg0) = m ((c.tc : Thread Cert.ModulationIdeal.nD Cert.ModulationIdeal.τ).loc Cert.ModulationIdeal.main_arg0)
      ∧ m' ((c.tc : Thread Cert.ModulationrefIdeal.nD Cert.ModulationrefIdeal.τ).loc Cert.ModulationrefIdeal.main_arg1) = m ((c.tc : Thread Cert.ModulationIdeal.nD Cert.ModulationIdeal.τ).loc Cert.ModulationIdeal.main_arg1)
      ∧ m' ((c.tc : Thread Cert.ModulationrefIdeal.nD Cert.ModulationrefIdeal.τ).loc Cert.ModulationrefIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v0)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v0) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationrefIdeal.defs (F := Ideal)) (onTc (τ := Cert.ModulationrefIdeal.τ) (Cert.ModulationrefIdeal.main (F := Ideal))) ⟨m', fun _ => 0, g'⟩ (fun r => ∀ c : Dev Cert.ModulationrefIdeal.nD,
          r.2.mem ((c.tc : Thread Cert.ModulationrefIdeal.nD Cert.ModulationrefIdeal.τ).loc Cert.ModulationrefIdeal.main_v4) = v0 c
          ∧ r.2.mem ((c.tc : Thread Cert.ModulationrefIdeal.nD Cert.ModulationrefIdeal.τ).loc Cert.ModulationrefIdeal.main_arg0) = m' ((c.tc : Thread Cert.ModulationrefIdeal.nD Cert.ModulationrefIdeal.τ).loc Cert.ModulationrefIdeal.main_arg0)
          ∧ r.2.mem ((c.tc : Thread Cert.ModulationrefIdeal.nD Cert.ModulationrefIdeal.τ).loc Cert.ModulationrefIdeal.main_arg1) = m' ((c.tc : Thread Cert.ModulationrefIdeal.nD Cert.ModulationrefIdeal.τ).loc Cert.ModulationrefIdeal.main_arg1)
          ∧ r.2.mem ((c.tc : Thread Cert.ModulationrefIdeal.nD Cert.ModulationrefIdeal.τ).loc Cert.ModulationrefIdeal.main_arg2) = m' ((c.tc : Thread Cert.ModulationrefIdeal.nD Cert.ModulationrefIdeal.τ).loc Cert.ModulationrefIdeal.main_arg2))

def preserves_Modulate_ModulateIdeal : Prop :=
  True

def algebraic_ModulateIdeal_ModulaterefIdeal [hModulateIdeal : Cert.ModulateIdeal.Facts] [hModulaterefIdeal : Cert.ModulaterefIdeal.Facts] : Prop :=
  ∀ (m : (ℓ : Loc Cert.ModulateIdeal.nD Cert.ModulateIdeal.τ Cert.ModulateIdeal.sig) → Buf (Elt Ideal) ℓ) (g : Dev Cert.ModulateIdeal.nD → PrngReg)
    (m' : (ℓ : Loc Cert.ModulaterefIdeal.nD Cert.ModulaterefIdeal.τ Cert.ModulaterefIdeal.sig) → Buf (Elt Ideal) ℓ) (g' : Dev Cert.ModulaterefIdeal.nD → PrngReg), Pre_ModulateIdeal m →
    (∀ c : Dev Cert.ModulateIdeal.nD,
      m' ((c.tc : Thread Cert.ModulaterefIdeal.nD Cert.ModulaterefIdeal.τ).loc Cert.ModulaterefIdeal.main_arg0) = m ((c.tc : Thread Cert.ModulateIdeal.nD Cert.ModulateIdeal.τ).loc Cert.ModulateIdeal.main_arg0)
      ∧ m' ((c.tc : Thread Cert.ModulaterefIdeal.nD Cert.ModulaterefIdeal.τ).loc Cert.ModulaterefIdeal.main_arg1) = m ((c.tc : Thread Cert.ModulateIdeal.nD Cert.ModulateIdeal.τ).loc Cert.ModulateIdeal.main_arg1)
      ∧ m' ((c.tc : Thread Cert.ModulaterefIdeal.nD Cert.ModulaterefIdeal.τ).loc Cert.ModulaterefIdeal.main_arg2) = m ((c.tc : Thread Cert.ModulateIdeal.nD Cert.ModulateIdeal.τ).loc Cert.ModulateIdeal.main_arg2)) →
    ∃ (v0 : (c : Dev Cert.ModulateIdeal.nD) → Buf (Elt Ideal) ((c.tc : Thread Cert.ModulateIdeal.nD Cert.ModulateIdeal.τ).loc Cert.ModulateIdeal.main_v0)),
      θ_run (Cert.ModulateIdeal.defs (F := Ideal)) (onTc (τ := Cert.ModulateIdeal.τ) (Cert.ModulateIdeal.main (F := Ideal))) ⟨m, fun _ => 0, g⟩ (fun r => ∀ c : Dev Cert.ModulateIdeal.nD,
          r.2.mem ((c.tc : Thread Cert.ModulateIdeal.nD Cert.ModulateIdeal.τ).loc Cert.ModulateIdeal.main_v0) = v0 c
          ∧ r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
          ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
          ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2))
      ∧ θ_run (Cert.ModulaterefIdeal.defs (F := Ideal)) (onTc (τ := Cert.ModulaterefIdeal.τ) (Cert.ModulaterefIdeal.main (F := Ideal))) ⟨m', fun _ => 0, g'⟩ (fun r => ∀ c : Dev Cert.ModulaterefIdeal.nD,
          r.2.mem ((c.tc : Thread Cert.ModulaterefIdeal.nD Cert.ModulaterefIdeal.τ).loc Cert.ModulaterefIdeal.main_v29) = v0 c
          ∧ r.2.mem ((c.tc : Thread Cert.ModulaterefIdeal.nD Cert.ModulaterefIdeal.τ).loc Cert.ModulaterefIdeal.main_arg0) = m' ((c.tc : Thread Cert.ModulaterefIdeal.nD Cert.ModulaterefIdeal.τ).loc Cert.ModulaterefIdeal.main_arg0)
          ∧ r.2.mem ((c.tc : Thread Cert.ModulaterefIdeal.nD Cert.ModulaterefIdeal.τ).loc Cert.ModulaterefIdeal.main_arg1) = m' ((c.tc : Thread Cert.ModulaterefIdeal.nD Cert.ModulaterefIdeal.τ).loc Cert.ModulaterefIdeal.main_arg1)
          ∧ r.2.mem ((c.tc : Thread Cert.ModulaterefIdeal.nD Cert.ModulaterefIdeal.τ).loc Cert.ModulaterefIdeal.main_arg2) = m' ((c.tc : Thread Cert.ModulaterefIdeal.nD Cert.ModulaterefIdeal.τ).loc Cert.ModulaterefIdeal.main_arg2))

def Claim : Prop :=
  ∃ (hKernel : Cert.Kernel.Facts) (hKernelIdeal : Cert.KernelIdeal.Facts) (hReferenceIdeal : Cert.ReferenceIdeal.Facts) (hInprojA : Cert.InprojA.Facts) (hInprojAIdeal : Cert.InprojAIdeal.Facts) (hInprojArefIdeal : Cert.InprojArefIdeal.Facts) (hInprojB : Cert.InprojB.Facts) (hInprojBIdeal : Cert.InprojBIdeal.Facts) (hInprojBrefIdeal : Cert.InprojBrefIdeal.Facts) (hOutproj : Cert.Outproj.Facts) (hOutprojIdeal : Cert.OutprojIdeal.Facts) (hOutprojrefIdeal : Cert.OutprojrefIdeal.Facts) (hOutfinal : Cert.Outfinal.Facts) (hOutfinalIdeal : Cert.OutfinalIdeal.Facts) (hOutfinalrefIdeal : Cert.OutfinalrefIdeal.Facts) (hModulation : Cert.Modulation.Facts) (hModulationIdeal : Cert.ModulationIdeal.Facts) (hModulationrefIdeal : Cert.ModulationrefIdeal.Facts) (hModulate : Cert.Modulate.Facts) (hModulateIdeal : Cert.ModulateIdeal.Facts) (hModulaterefIdeal : Cert.ModulaterefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InprojA (hInprojA := hInprojA)
    ∧ quiescent_InprojAIdeal (hInprojAIdeal := hInprojAIdeal)
    ∧ quiescent_InprojArefIdeal (hInprojArefIdeal := hInprojArefIdeal)
    ∧ quiescent_InprojB (hInprojB := hInprojB)
    ∧ quiescent_InprojBIdeal (hInprojBIdeal := hInprojBIdeal)
    ∧ quiescent_InprojBrefIdeal (hInprojBrefIdeal := hInprojBrefIdeal)
    ∧ quiescent_Outproj (hOutproj := hOutproj)
    ∧ quiescent_OutprojIdeal (hOutprojIdeal := hOutprojIdeal)
    ∧ quiescent_OutprojrefIdeal (hOutprojrefIdeal := hOutprojrefIdeal)
    ∧ quiescent_Outfinal (hOutfinal := hOutfinal)
    ∧ quiescent_OutfinalIdeal (hOutfinalIdeal := hOutfinalIdeal)
    ∧ quiescent_OutfinalrefIdeal (hOutfinalrefIdeal := hOutfinalrefIdeal)
    ∧ quiescent_Modulation (hModulation := hModulation)
    ∧ quiescent_ModulationIdeal (hModulationIdeal := hModulationIdeal)
    ∧ quiescent_ModulationrefIdeal (hModulationrefIdeal := hModulationrefIdeal)
    ∧ quiescent_Modulate (hModulate := hModulate)
    ∧ quiescent_ModulateIdeal (hModulateIdeal := hModulateIdeal)
    ∧ quiescent_ModulaterefIdeal (hModulaterefIdeal := hModulaterefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InprojA_InprojAIdeal
    ∧ algebraic_InprojAIdeal_InprojArefIdeal (hInprojAIdeal := hInprojAIdeal) (hInprojArefIdeal := hInprojArefIdeal)
    ∧ preserves_InprojB_InprojBIdeal
    ∧ algebraic_InprojBIdeal_InprojBrefIdeal (hInprojBIdeal := hInprojBIdeal) (hInprojBrefIdeal := hInprojBrefIdeal)
    ∧ preserves_Outproj_OutprojIdeal
    ∧ algebraic_OutprojIdeal_OutprojrefIdeal (hOutprojIdeal := hOutprojIdeal) (hOutprojrefIdeal := hOutprojrefIdeal)
    ∧ preserves_Outfinal_OutfinalIdeal
    ∧ algebraic_OutfinalIdeal_OutfinalrefIdeal (hOutfinalIdeal := hOutfinalIdeal) (hOutfinalrefIdeal := hOutfinalrefIdeal)
    ∧ preserves_Modulation_ModulationIdeal
    ∧ algebraic_ModulationIdeal_ModulationrefIdeal (hModulationIdeal := hModulationIdeal) (hModulationrefIdeal := hModulationrefIdeal)
    ∧ preserves_Modulate_ModulateIdeal
    ∧ algebraic_ModulateIdeal_ModulaterefIdeal (hModulateIdeal := hModulateIdeal) (hModulaterefIdeal := hModulaterefIdeal)
-- ==== Pre_finite.lean ====
abbrev S16 : Shape := ⟨1, ![16]⟩
abbrev S4x2048x20480 : Shape := ⟨3, ![4, 2048, 20480]⟩
abbrev S_ : Shape := ⟨0, ![]⟩

class Facts : Prop where
  bitsLt_bf16_f32 : FTy.bits .bf16 < FTy.bits .f32
  bcast_S_S16 : S_.BroadcastsInDim S16 (![] : Fin 0 → Fin S16.rank)
  reducesTo_S16_S_d0 : S16.ReducesTo [0] S_
  h_S_ : 0 < S_.numel
  bcast_S_S4x2048x20480 : S_.BroadcastsInDim S4x2048x20480 (![] : Fin 0 → Fin S4x2048x20480.rank)
  reducesTo_S4x2048x20480_S_d0_1_2 : S4x2048x20480.ReducesTo [0, 1, 2] S_

variable [Facts]

def fn {F : FTy → Type} [FloatOps F] (main_arg0 : FVec F S16 .f32) (main_arg1 : FVec F S4x2048x20480 .bf16) : IVec S_ 1 :=
  let main_v0 : FVec F S4x2048x20480 .f32 := (extf .f32 · bitsLt_bf16_f32) main_arg1
  let main_cst : FVec F S_ .f32 := constant S_ .f32 0xFF800000#32
  let main_v1 : FVec F S16 .f32 := broadcastInDim S16 ![] bcast_S_S16 main_cst
  let main_v2 : IVec S16 1 := cmpf .ogt main_arg0 main_v1
  let main_cst_0 : FVec F S_ .f32 := constant S_ .f32 0x7F800000#32
  let main_v3 : FVec F S16 .f32 := broadcastInDim S16 ![] bcast_S_S16 main_cst_0
  let main_v4 : IVec S16 1 := cmpf .olt main_arg0 main_v3
  let main_v5 : IVec S16 1 := andi main_v2 main_v4
  let main_c : IVec S_ 1 := constantI S_ 1 1#1
  let main_v6 : IVec S_ 1 := (fun x v => Host.reduce IntOp.andi x v reducesTo_S16_S_d0 h_S_) main_v5 main_c
  let main_cst_1 : FVec F S_ .f32 := constant S_ .f32 0xFF800000#32
  let main_v7 : FVec F S4x2048x20480 .f32 := broadcastInDim S4x2048x20480 ![] bcast_S_S4x2048x20480 main_cst_1
  let main_v8 : IVec S4x2048x20480 1 := cmpf .ogt main_v0 main_v7
  let main_cst_2 : FVec F S_ .f32 := constant S_ .f32 0x7F800000#32
  let main_v9 : FVec F S4x2048x20480 .f32 := broadcastInDim S4x2048x20480 ![] bcast_S_S4x2048x20480 main_cst_2
  let main_v10 : IVec S4x2048x20480 1 := cmpf .olt main_v0 main_v9
  let main_v11 : IVec S4x2048x20480 1 := andi main_v8 main_v10
  let main_c_3 : IVec S_ 1 := constantI S_ 1 1#1
  let main_v12 : IVec S_ 1 := (fun x v => Host.reduce IntOp.andi x v reducesTo_S4x2048x20480_S_d0_1_2 h_S_) main_v11 main_c_3
  let main_v13 : IVec S_ 1 := andi main_v6 main_v12
  main_v13
-- ==== Kernel.lean ====
abbrev S16 : Shape := ⟨1, ![16]⟩
abbrev S4x2048x20480 : Shape := ⟨3, ![4, 2048, 20480]⟩
abbrev S4x2048x2048 : Shape := ⟨3, ![4, 2048, 2048]⟩
abbrev S1x2048x128 : Shape := ⟨3, ![1, 2048, 128]⟩
abbrev S2048x128 : Shape := ⟨2, ![2048, 128]⟩
abbrev S1 : Shape := ⟨1, ![1]⟩
abbrev S128x128 : Shape := ⟨2, ![128, 128]⟩
abbrev S128x256 : Shape := ⟨2, ![128, 256]⟩
abbrev S1x128x128 : Shape := ⟨3, ![1, 128, 128]⟩
abbrev S256x128 : Shape := ⟨2, ![256, 128]⟩
abbrev S128 : Shape := ⟨1, ![128]⟩
abbrev S128x1 : Shape := ⟨2, ![128, 1]⟩
abbrev S256x256 : Shape := ⟨2, ![256, 256]⟩
abbrev S1x32x128 : Shape := ⟨3, ![1, 32, 128]⟩
abbrev S32x128 : Shape := ⟨2, ![32, 128]⟩
abbrev S1x256x128 : Shape := ⟨3, ![1, 256, 128]⟩
abbrev S512x128 : Shape := ⟨2, ![512, 128]⟩

abbrev nBuf : Space → Nat
  | .hbm => 3
  | .vmem => 28
  | .smem => 1
  | _ => 0

abbrev bufTy : (tb : Table) → Fin (tcTables nBuf tb) → BufTy
  | .hbm, ⟨0, _⟩ => ⟨S16, .f32⟩
  | .hbm, ⟨1, _⟩ => ⟨S4x2048x20480, .bf16⟩
  | .hbm, ⟨2, _⟩ => ⟨S4x2048x2048, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x2048x128, .bf16⟩
  | .local _ .vmem, ⟨17, _⟩ => ⟨S1x2048x128, .bf16⟩
  | .local _ .vmem, ⟨18, _⟩ => ⟨S1x2048x128, .bf16⟩
  | .local _ .vmem, ⟨19, _⟩ => ⟨S1x2048x128, .bf16⟩
  | .local _ .vmem, ⟨20, _⟩ => ⟨S1x2048x128, .bf16⟩
  | .local _ .vmem, ⟨21, _⟩ => ⟨S1x2048x128, .bf16⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .smem, ⟨0, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![4, 16], ![false, false]⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c96_i32 : BitVec 32 := 96#32
  let v0 : BitVec 32 := Scalar.addi c96_i32 arg1
  let c0_i32 : BitVec 32 := 0#32
  let c0_i32_0 : BitVec 32 := 0#32
  ![arg0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c112_i32 : BitVec 32 := 112#32
  let v0 : BitVec 32 := Scalar.addi c112_i32 arg1
  let c0_i32 : BitVec 32 := 0#32
  let c0_i32_0 : BitVec 32 := 0#32
  ![arg0.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg1
  let c0_i32 : BitVec 32 := 0#32
  let c0_i32_0 : BitVec 32 := 0#32
  ![arg0.toNat, c0_i32.toNat, v0.toNat]

def cc0_transform_10 (i : grid0.Coords) : Fin 3 → Nat :=
  let arg0 : BitVec 32 := BitVec.ofNat 32 (i 0).val
  let arg1 : BitVec 32 := BitVec.ofNat 32 (i 1).val
  let c144_i32 : BitVec 32 := 144#32
  let v0 : BitVec 32 := Scalar.addi c144_i32 arg1
  let c0_i32 : BitVec 32 := 0#32
  let c0_i32_0 : BitVec 32 := 0#32
  ![arg0.toNat, c0_i32.toNat, v0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "exp2_scale" => some (((Real.sqrt 128)⁻¹ * (Real.log 2)⁻¹ : ℝ) : EReal)
  | "log2e" => some (((Real.log 2)⁻¹ : ℝ) : EReal)
  | "mask" => some ⊥
  | "scale" => some (((Real.sqrt 128)⁻¹ : ℝ) : EReal)
  | _ => none
-- ==== ReferenceIdeal.lean ====
abbrev S16 : Shape := ⟨1, ![16]⟩
abbrev S4x2048x20480 : Shape := ⟨3, ![4, 2048, 20480]⟩
abbrev S3 : Shape := ⟨1, ![3]⟩
abbrev S4x2048x2048 : Shape := ⟨3, ![4, 2048, 2048]⟩
abbrev S4x4x1x512x2048 : Shape := ⟨5, ![4, 4, 1, 512, 2048]⟩
abbrev S4x4x512x1x2048 : Shape := ⟨5, ![4, 4, 512, 1, 2048]⟩
abbrev S4x2048x16x128 : Shape := ⟨4, ![4, 2048, 16, 128]⟩
abbrev S4x4x4x128x2048 : Shape := ⟨5, ![4, 4, 4, 128, 2048]⟩
abbrev S4x4x128x4x2048 : Shape := ⟨5, ![4, 4, 128, 4, 2048]⟩
abbrev S4x4x16x32x2048 : Shape := ⟨5, ![4, 4, 16, 32, 2048]⟩
abbrev S4x4x32x16x2048 : Shape := ⟨5, ![4, 4, 32, 16, 2048]⟩
abbrev S1x4x2048x16x128 : Shape := ⟨5, ![1, 4, 2048, 16, 128]⟩
abbrev S3x4x2048x16x128 : Shape := ⟨5, ![3, 4, 2048, 16, 128]⟩
abbrev S3x4x16x2048x2048 : Shape := ⟨5, ![3, 4, 16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S3x1x1 : Shape := ⟨3, ![3, 1, 1]⟩
abbrev S1x2048x2048 : Shape := ⟨3, ![1, 2048, 2048]⟩
abbrev S3x2048x2048 : Shape := ⟨3, ![3, 2048, 2048]⟩
abbrev S16x1x1 : Shape := ⟨3, ![16, 1, 1]⟩
abbrev S16x2048x2048 : Shape := ⟨3, ![16, 2048, 2048]⟩
abbrev S3x1x1x2048x2048 : Shape := ⟨5, ![3, 1, 1, 2048, 2048]⟩
abbrev S1x1x16x2048x2048 : Shape := ⟨5, ![1, 1, 16, 2048, 2048]⟩
abbrev S3x4x16x2048 : Shape := ⟨4, ![3, 4, 16, 2048]⟩
abbrev S3x4x16x2048x1 : Shape := ⟨5, ![3, 4, 16, 2048, 1]⟩
abbrev S3x4x16x128x2048 : Shape := ⟨5, ![3, 4, 16, 128, 2048]⟩
abbrev S4x16x2048 : Shape := ⟨3, ![4, 16, 2048]⟩
abbrev S1x4x16x2048 : Shape := ⟨4, ![1, 4, 16, 2048]⟩

abbrev nBuf : Space → Nat
  | .hbm => 156
  | .vmem => 0
  | .smem => 0
  | _ => 0

abbrev hbmTy0_0 (i : Nat) : BufTy := match i % 128 with
  | 0 => ⟨S16, .f32⟩
  | 1 => ⟨S4x2048x20480, .bf16⟩
  | 2 => ⟨S3, .i32⟩
  | 3 => ⟨S3, .i32⟩
  | 4 => ⟨S4x2048x20480, .f32⟩
  | 5 => ⟨S4x2048x2048, .f32⟩
  | 6 => ⟨S4x2048x2048, .f32⟩
  | 7 => ⟨S4x2048x2048, .f32⟩
  | 8 => ⟨S4x2048x2048, .f32⟩
  | 9 => ⟨S4x2048x2048, .f32⟩
  | 10 => ⟨S4x2048x2048, .f32⟩
  | 11 => ⟨S4x2048x2048, .f32⟩
  | 12 => ⟨S4x2048x2048, .f32⟩
  | 13 => ⟨S4x2048x2048, .f32⟩
  | 14 => ⟨S4x2048x2048, .f32⟩
  | 15 => ⟨S4x4x1x512x2048, .f32⟩
  | 16 => ⟨S4x4x512x1x2048, .f32⟩
  | 17 => ⟨S4x2048x2048, .f32⟩
  | 18 => ⟨S4x2048x16x128, .f32⟩
  | 19 => ⟨S4x4x4x128x2048, .f32⟩
  | 20 => ⟨S4x4x128x4x2048, .f32⟩
  | 21 => ⟨S4x2048x2048, .f32⟩
  | 22 => ⟨S4x2048x16x128, .f32⟩
  | 23 => ⟨S4x4x16x32x2048, .f32⟩
  | 24 => ⟨S4x4x32x16x2048, .f32⟩
  | 25 => ⟨S4x2048x2048, .f32⟩
  | 26 => ⟨S4x2048x16x128, .f32⟩
  | 27 => ⟨S1x4x2048x16x128, .f32⟩
  | 28 => ⟨S1x4x2048x16x128, .f32⟩
  | 29 => ⟨S1x4x2048x16x128, .f32⟩
  | 30 => ⟨S3x4x2048x16x128, .f32⟩
  | 31 => ⟨S4x4x1x512x2048, .f32⟩
  | 32 => ⟨S4x4x512x1x2048, .f32⟩
  | 33 => ⟨S4x2048x2048, .f32⟩
  | 34 => ⟨S4x2048x16x128, .f32⟩
  | 35 => ⟨S4x4x4x128x2048, .f32⟩
  | 36 => ⟨S4x4x128x4x2048, .f32⟩
  | 37 => ⟨S4x2048x2048, .f32⟩
  | 38 => ⟨S4x2048x16x128, .f32⟩
  | 39 => ⟨S4x4x16x32x2048, .f32⟩
  | 40 => ⟨S4x4x32x16x2048, .f32⟩
  | 41 => ⟨S4x2048x2048, .f32⟩
  | 42 => ⟨S4x2048x16x128, .f32⟩
  | 43 => ⟨S1x4x2048x16x128, .f32⟩
  | 44 => ⟨S1x4x2048x16x128, .f32⟩
  | 45 => ⟨S1x4x2048x16x128, .f32⟩
  | 46 => ⟨S3x4x2048x16x128, .f32⟩
  | 47 => ⟨S4x4x1x512x2048, .f32⟩
  | 48 => ⟨S4x4x512x1x2048, .f32⟩
  | 49 => ⟨S4x2048x2048, .f32⟩
  | 50 => ⟨S4x2048x16x128, .f32⟩
  | 51 => ⟨S4x4x4x128x2048, .f32⟩
  | 52 => ⟨S4x4x128x4x2048, .f32⟩
  | 53 => ⟨S4x2048x2048, .f32⟩
  | 54 => ⟨S4x2048x16x128, .f32⟩
  | 55 => ⟨S4x4x16x32x2048, .f32⟩
  | 56 => ⟨S4x4x32x16x2048, .f32⟩
  | 57 => ⟨S4x2048x2048, .f32⟩
  | 58 => ⟨S4x2048x16x128, .f32⟩
  | 59 => ⟨S1x4x2048x16x128, .f32⟩
  | 60 => ⟨S1x4x2048x16x128, .f32⟩
  | 61 => ⟨S1x4x2048x16x128, .f32⟩
  | 62 => ⟨S3x4x2048x16x128, .f32⟩
  | 63 => ⟨S3x4x16x2048x2048, .f32⟩
  | 64 => ⟨S_, .f32⟩
  | 65 => ⟨S_, .f32⟩
  | 66 => ⟨S_, .f32⟩
  | 67 => ⟨S_, .f32⟩
  | 68 => ⟨S3x4x16x2048x2048, .f32⟩
  | 69 => ⟨S3x4x16x2048x2048, .f32⟩
  | 70 => ⟨S2048, .i32⟩
  | 71 => ⟨S2048x1, .i32⟩
  | 72 => ⟨S2048, .i32⟩
  | 73 => ⟨S1x2048, .i32⟩
  | 74 => ⟨S2048x2048, .i32⟩
  | 75 => ⟨S2048x2048, .i32⟩
  | 76 => ⟨S2048x2048, .i32⟩
  | 77 => ⟨S_, .i32⟩
  | 78 => ⟨S2048x2048, .i32⟩
  | 79 => ⟨S2048x2048, .i1⟩
  | 80 => ⟨S3x1x1, .i32⟩
  | 81 => ⟨S1x2048x2048, .i32⟩
  | 82 => ⟨S3x2048x2048, .i32⟩
  | 83 => ⟨S3x2048x2048, .i32⟩
  | 84 => ⟨S3x2048x2048, .i1⟩
  | 85 => ⟨S1x2048x2048, .i1⟩
  | 86 => ⟨S3x2048x2048, .i1⟩
  | 87 => ⟨S3x2048x2048, .i1⟩
  | 88 => ⟨S1x2048x2048, .i32⟩
  | 89 => ⟨S3x1x1, .i32⟩
  | 90 => ⟨S3x2048x2048, .i32⟩
  | 91 => ⟨S3x2048x2048, .i32⟩
  | 92 => ⟨S3x2048x2048, .i32⟩
  | 93 => ⟨S_, .i32⟩
  | 94 => ⟨S3x2048x2048, .i32⟩
  | 95 => ⟨S3x2048x2048, .i1⟩
  | 96 => ⟨S3x2048x2048, .i1⟩
  | 97 => ⟨S16x1x1, .f32⟩
  | 98 => ⟨S16x1x1, .f32⟩
  | 99 => ⟨S2048x2048, .f32⟩
  | 100 => ⟨S1x2048x2048, .f32⟩
  | 101 => ⟨S16x2048x2048, .f32⟩
  | 102 => ⟨S16x2048x2048, .f32⟩
  | 103 => ⟨S16x2048x2048, .f32⟩
  | 104 => ⟨S3x1x1x2048x2048, .i1⟩
  | 105 => ⟨S1x1x16x2048x2048, .f32⟩
  | 106 => ⟨S3x4x16x2048x2048, .f32⟩
  | 107 => ⟨S3x4x16x2048x2048, .f32⟩
  | 108 => ⟨S_, .f32⟩
  | 109 => ⟨S_, .f32⟩
  | 110 => ⟨S3x4x16x2048x2048, .i1⟩
  | 111 => ⟨S3x4x16x2048x2048, .f32⟩
  | 112 => ⟨S3x4x16x2048x2048, .f32⟩
  | 113 => ⟨S_, .f32⟩
  | 114 => ⟨S3x4x16x2048, .f32⟩
  | 115 => ⟨S3x4x16x2048x1, .f32⟩
  | 116 => ⟨S3x4x16x2048x2048, .f32⟩
  | 117 => ⟨S3x4x16x2048x2048, .f32⟩
  | 118 => ⟨S3x4x16x2048x2048, .f32⟩
  | 119 => ⟨S_, .f32⟩
  | 120 => ⟨S3x4x16x2048, .f32⟩
  | 121 => ⟨S3x4x16x2048, .f32⟩
  | 122 => ⟨S3x4x16x2048, .f32⟩
  | 123 => ⟨S3x4x16x2048x1, .f32⟩
  | 124 => ⟨S3x4x16x2048x2048, .f32⟩
  | 125 => ⟨S3x4x16x2048x2048, .f32⟩
  | 126 => ⟨S3x4x16x2048x2048, .f32⟩
  | 127 => ⟨S3x4x16x128x2048, .f32⟩
  | _ => ⟨S16, .f32⟩

abbrev hbmTy0_1 (i : Nat) : BufTy := match i % 128 with
  | 0 => ⟨S3x4x2048x16x128, .f32⟩
  | 1 => ⟨S_, .f32⟩
  | 2 => ⟨S4x16x2048, .f32⟩
  | 3 => ⟨S_, .f32⟩
  | 4 => ⟨S4x16x2048, .f32⟩
  | 5 => ⟨S4x16x2048, .f32⟩
  | 6 => ⟨S1x4x16x2048, .f32⟩
  | 7 => ⟨S3x4x16x2048, .f32⟩
  | 8 => ⟨S3x4x16x2048, .f32⟩
  | 9 => ⟨S3x4x16x2048, .f32⟩
  | 10 => ⟨S_, .f32⟩
  | 11 => ⟨S4x16x2048, .f32⟩
  | 12 => ⟨S1x4x16x2048, .f32⟩
  | 13 => ⟨S3x4x16x2048, .f32⟩
  | 14 => ⟨S3x4x16x2048, .f32⟩
  | 15 => ⟨S4x2048x16x128, .f32⟩
  | 16 => ⟨S4x2048x2048, .f32⟩
  | 17 => ⟨S4x2048x2048, .f32⟩
  | 18 => ⟨S4x2048x2048, .f32⟩
  | 19 => ⟨S_, .f32⟩
  | 20 => ⟨S4x2048x2048, .f32⟩
  | 21 => ⟨S4x2048x2048, .f32⟩
  | 22 => ⟨S_, .f32⟩
  | 23 => ⟨S4x2048x2048, .f32⟩
  | 24 => ⟨S4x2048x2048, .f32⟩
  | 25 => ⟨S4x2048x2048, .f32⟩
  | 26 => ⟨S4x2048x2048, .f32⟩
  | 27 => ⟨S4x2048x2048, .bf16⟩
  | _ => ⟨S16, .f32⟩

abbrev hbmTy (i : Nat) : BufTy := match i / 128 with
  | 0 => hbmTy0_0 i
  | 1 => hbmTy0_1 i
  | _ => ⟨S16, .f32⟩

abbrev bufTy : (tb : Table) → Fin (tcTables nBuf tb) → BufTy
  | .hbm, ⟨i, _⟩ => hbmTy i
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_cst : Ref sig .tc := ⟨.hbm, 64, rfl⟩
abbrev main_v60 : Ref sig .tc := ⟨.hbm, 65, rfl⟩
abbrev main_cst_1 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_c_2 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_c_3 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_cst_4 : Ref sig .tc := ⟨.hbm, 108, rfl⟩
abbrev main_call0_v0 : Ref sig .tc := ⟨.hbm, 109, rfl⟩
abbrev main_call0_v1 : Ref sig .tc := ⟨.hbm, 110, rfl⟩
abbrev main_call0_v2 : Ref sig .tc := ⟨.hbm, 111, rfl⟩
abbrev main_v100 : Ref sig .tc := ⟨.hbm, 112, rfl⟩
abbrev main_cst_5 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_cst_6 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_cst_7 : Ref sig .tc := ⟨.hbm, 129, rfl⟩
abbrev main_v115 : Ref sig .tc := ⟨.hbm, 130, rfl⟩
abbrev main_cst_8 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_cst_9 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_call1_v0 : Ref sig .tc := ⟨.hbm, 145, rfl⟩
abbrev main_call1_v1 : Ref sig .tc := ⟨.hbm, 146, rfl⟩
abbrev main_call1_cst : Ref sig .tc := ⟨.hbm, 147, rfl⟩
abbrev main_call1_v2 : Ref sig .tc := ⟨.hbm, 148, rfl⟩
abbrev main_call1_v3 : Ref sig .tc := ⟨.hbm, 149, rfl⟩
abbrev main_call1_cst_0 : Ref sig .tc := ⟨.hbm, 150, rfl⟩
abbrev main_call1_v4 : Ref sig .tc := ⟨.hbm, 151, rfl⟩
abbrev main_call1_v5 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩

abbrev nD : Nat := 1
abbrev τ : Topo := Topo.v7x

variable {F : FTy → Type} [FloatOps F]
-- ==== InprojA.lean ====
abbrev S3x8192x2048 : Shape := ⟨3, ![3, 8192, 2048]⟩
abbrev S2x2048x20480 : Shape := ⟨3, ![2, 2048, 20480]⟩
abbrev S8192x20480 : Shape := ⟨2, ![8192, 20480]⟩
abbrev S1x1024x2048 : Shape := ⟨3, ![1, 1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S3x8192x2048, .bf16⟩
  | .hbm, ⟨1, _⟩ => ⟨S2x2048x20480, .f32⟩
  | .hbm, ⟨2, _⟩ => ⟨S8192x20480, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S3x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![20, 8], ![false, false]⟩

def cc0_transform_0 (i : grid0.Coords) : Fin 3 → Nat :=
  let arg0 : BitVec 32 := BitVec.ofNat 32 (i 0).val
  let arg1 : BitVec 32 := BitVec.ofNat 32 (i 1).val
  let c18_i32 : BitVec 32 := 18#32
  let v0 : BitVec 1 := Scalar.cmpi .slt arg0 c18_i32
  let c6_i32 : BitVec 32 := 6#32
  let v1 : BitVec 32 := Scalar.divsi arg0 c6_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c6_i32 c0_i32_1
  let v8 : BitVec 32 := Scalar.extui v7
  let c0_i32_2 : BitVec 32 := 0#32
  let v9 : BitVec 1 := Scalar.cmpi .slt c6_i32 c0_i32_2
  let v10 : BitVec 32 := Scalar.extui v9
  let v11 : BitVec 32 := Scalar.subi v8 v10
  let v12 : BitVec 1 := Scalar.cmpi .ne v6 v11
  let v13 : BitVec 32 := Scalar.remsi arg0 c6_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.select v0 v17 c0_i32_4
  let c0_i32_5 : BitVec 32 := 0#32
  let c0_i32_6 : BitVec 32 := 0#32
  ![v18.toNat, arg1.toNat, c0_i32_5.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InprojArefIdeal.lean ====
abbrev S3x8192x2048 : Shape := ⟨3, ![3, 8192, 2048]⟩
abbrev S2x2048x20480 : Shape := ⟨3, ![2, 2048, 20480]⟩
abbrev S1x8192x2048 : Shape := ⟨3, ![1, 8192, 2048]⟩
abbrev S8192x2048 : Shape := ⟨2, ![8192, 2048]⟩
abbrev S1x2048x6144 : Shape := ⟨3, ![1, 2048, 6144]⟩
abbrev S2048x6144 : Shape := ⟨2, ![2048, 6144]⟩
abbrev S8192x6144 : Shape := ⟨2, ![8192, 6144]⟩
abbrev S1x2048x2048 : Shape := ⟨3, ![1, 2048, 2048]⟩
abbrev S2048x2048 : Shape := ⟨2, ![2048, 2048]⟩
abbrev S8192x20480 : Shape := ⟨2, ![8192, 20480]⟩

abbrev nBuf : Space → Nat
  | .hbm => 25
  | .vmem => 0
  | .smem => 0
  | _ => 0

abbrev bufTy : (tb : Table) → Fin (tcTables nBuf tb) → BufTy
  | .hbm, ⟨0, _⟩ => ⟨S3x8192x2048, .bf16⟩
  | .hbm, ⟨1, _⟩ => ⟨S2x2048x20480, .f32⟩
  | .hbm, ⟨2, _⟩ => ⟨S3x8192x2048, .f32⟩
  | .hbm, ⟨3, _⟩ => ⟨S1x8192x2048, .f32⟩
  | .hbm, ⟨4, _⟩ => ⟨S8192x2048, .f32⟩
  | .hbm, ⟨5, _⟩ => ⟨S1x2048x6144, .f32⟩
  | .hbm, ⟨6, _⟩ => ⟨S2048x6144, .f32⟩
  | .hbm, ⟨7, _⟩ => ⟨S8192x6144, .f32⟩
  | .hbm, ⟨8, _⟩ => ⟨S1x8192x2048, .f32⟩
  | .hbm, ⟨9, _⟩ => ⟨S8192x2048, .f32⟩
  | .hbm, ⟨10, _⟩ => ⟨S1x2048x6144, .f32⟩
  | .hbm, ⟨11, _⟩ => ⟨S2048x6144, .f32⟩
  | .hbm, ⟨12, _⟩ => ⟨S8192x6144, .f32⟩
  | .hbm, ⟨13, _⟩ => ⟨S1x8192x2048, .f32⟩
  | .hbm, ⟨14, _⟩ => ⟨S8192x2048, .f32⟩
  | .hbm, ⟨15, _⟩ => ⟨S1x2048x6144, .f32⟩
  | .hbm, ⟨16, _⟩ => ⟨S2048x6144, .f32⟩
  | .hbm, ⟨17, _⟩ => ⟨S8192x6144, .f32⟩
  | .hbm, ⟨18, _⟩ => ⟨S1x8192x2048, .f32⟩
  | .hbm, ⟨19, _⟩ => ⟨S8192x2048, .f32⟩
  | .hbm, ⟨20, _⟩ => ⟨S1x2048x2048, .f32⟩
  | .hbm, ⟨21, _⟩ => ⟨S2048x2048, .f32⟩
  | .hbm, ⟨22, _⟩ => ⟨S8192x2048, .f32⟩
  | .hbm, ⟨23, _⟩ => ⟨S8192x20480, .f32⟩
  | .hbm, ⟨24, _⟩ => ⟨S8192x20480, .bf16⟩
  | _, _ => ⟨S3x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩

abbrev nD : Nat := 1
abbrev τ : Topo := Topo.v7x

variable {F : FTy → Type} [FloatOps F]
-- ==== InprojB.lean ====
abbrev S1x8192x2048 : Shape := ⟨3, ![1, 8192, 2048]⟩
abbrev S2x2048x8192 : Shape := ⟨3, ![2, 2048, 8192]⟩
abbrev S8192x8192 : Shape := ⟨2, ![8192, 8192]⟩
abbrev S1x1024x2048 : Shape := ⟨3, ![1, 1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S1x8192x2048, .bf16⟩
  | .hbm, ⟨1, _⟩ => ⟨S2x2048x8192, .f32⟩
  | .hbm, ⟨2, _⟩ => ⟨S8192x8192, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S1x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InprojBrefIdeal.lean ====
abbrev S1x8192x2048 : Shape := ⟨3, ![1, 8192, 2048]⟩
abbrev S2x2048x8192 : Shape := ⟨3, ![2, 2048, 8192]⟩
abbrev S8192x2048 : Shape := ⟨2, ![8192, 2048]⟩
abbrev S1x2048x8192 : Shape := ⟨3, ![1, 2048, 8192]⟩
abbrev S2048x8192 : Shape := ⟨2, ![2048, 8192]⟩
abbrev S8192x8192 : Shape := ⟨2, ![8192, 8192]⟩

abbrev nBuf : Space → Nat
  | .hbm => 8
  | .vmem => 0
  | .smem => 0
  | _ => 0

abbrev bufTy : (tb : Table) → Fin (tcTables nBuf tb) → BufTy
  | .hbm, ⟨0, _⟩ => ⟨S1x8192x2048, .bf16⟩
  | .hbm, ⟨1, _⟩ => ⟨S2x2048x8192, .f32⟩
  | .hbm, ⟨2, _⟩ => ⟨S8192x2048, .bf16⟩
  | .hbm, ⟨3, _⟩ => ⟨S8192x2048, .f32⟩
  | .hbm, ⟨4, _⟩ => ⟨S1x2048x8192, .f32⟩
  | .hbm, ⟨5, _⟩ => ⟨S2048x8192, .f32⟩
  | .hbm, ⟨6, _⟩ => ⟨S8192x8192, .f32⟩
  | .hbm, ⟨7, _⟩ => ⟨S8192x8192, .bf16⟩
  | _, _ => ⟨S1x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Outproj.lean ====
abbrev S8192x2048 : Shape := ⟨2, ![8192, 2048]⟩
abbrev S2x2048x2048 : Shape := ⟨3, ![2, 2048, 2048]⟩
abbrev S4x4x3x2048 : Shape := ⟨4, ![4, 4, 3, 2048]⟩
abbrev S1024x2048 : Shape := ⟨2, ![1024, 2048]⟩
abbrev S1x2048x1024 : Shape := ⟨3, ![1, 2048, 1024]⟩
abbrev S1024x1024 : Shape := ⟨2, ![1024, 1024]⟩
abbrev S1x1x3x1024 : Shape := ⟨4, ![1, 1, 3, 1024]⟩
abbrev S2048x1024 : Shape := ⟨2, ![2048, 1024]⟩
abbrev S1x1x1x1024 : Shape := ⟨4, ![1, 1, 1, 1024]⟩
abbrev S1x1024 : Shape := ⟨2, ![1, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S4x4x3x2048, .f32⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S1x1x3x1024, .f32⟩
  | .local _ .vmem, ⟨7, _⟩ => ⟨S1x1x3x1024, .f32⟩
  | .local _ .vmem, ⟨8, _⟩ => ⟨S1024x1024, .f32⟩
  | .local _ .vmem, ⟨9, _⟩ => ⟨S1024x1024, .f32⟩
  | .local _ .vmem, ⟨10, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, v16.toNat, c0_i32_5.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutprojrefIdeal.lean ====
abbrev S8192x2048 : Shape := ⟨2, ![8192, 2048]⟩
abbrev S2x2048x2048 : Shape := ⟨3, ![2, 2048, 2048]⟩
abbrev S4x4x3x2048 : Shape := ⟨4, ![4, 4, 3, 2048]⟩
abbrev S1x2048x2048 : Shape := ⟨3, ![1, 2048, 2048]⟩
abbrev S2048x2048 : Shape := ⟨2, ![2048, 2048]⟩
abbrev S1x4x1x2048 : Shape := ⟨4, ![1, 4, 1, 2048]⟩
abbrev S4x2048 : Shape := ⟨2, ![4, 2048]⟩
abbrev S4x2048x2048 : Shape := ⟨3, ![4, 2048, 2048]⟩
abbrev S4x1x2048 : Shape := ⟨3, ![4, 1, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S4x4x3x2048, .f32⟩
  | .hbm, ⟨4, _⟩ => ⟨S1x2048x2048, .f32⟩
  | .hbm, ⟨5, _⟩ => ⟨S2048x2048, .f32⟩
  | .hbm, ⟨6, _⟩ => ⟨S1x4x1x2048, .f32⟩
  | .hbm, ⟨7, _⟩ => ⟨S4x2048, .f32⟩
  | .hbm, ⟨8, _⟩ => ⟨S8192x2048, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S4x1x2048, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Outfinal.lean ====
abbrev S8192x2048 : Shape := ⟨2, ![8192, 2048]⟩
abbrev S2x2048x2048 : Shape := ⟨3, ![2, 2048, 2048]⟩
abbrev S4x4x3x2048 : Shape := ⟨4, ![4, 4, 3, 2048]⟩
abbrev S2048 : Shape := ⟨1, ![2048]⟩
abbrev S1x2048 : Shape := ⟨2, ![1, 2048]⟩
abbrev S512x2048 : Shape := ⟨2, ![512, 2048]⟩
abbrev S1x2048x2048 : Shape := ⟨3, ![1, 2048, 2048]⟩
abbrev S1x1x3x2048 : Shape := ⟨4, ![1, 1, 3, 2048]⟩
abbrev S2048x2048 : Shape := ⟨2, ![2048, 2048]⟩
abbrev S1x1x1x2048 : Shape := ⟨4, ![1, 1, 1, 2048]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S4x4x3x2048, .f32⟩
  | .hbm, ⟨4, _⟩ => ⟨S2048, .f32⟩
  | .hbm, ⟨5, _⟩ => ⟨S1x2048, .f32⟩
  | .hbm, ⟨6, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .f32⟩
  | .local _ .vmem, ⟨3, _⟩ => ⟨S512x2048, .f32⟩
  | .local _ .vmem, ⟨4, _⟩ => ⟨S512x2048, .f32⟩
  | .local _ .vmem, ⟨5, _⟩ => ⟨S1x1x3x2048, .f32⟩
  | .local _ .vmem, ⟨6, _⟩ => ⟨S1x1x3x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S2048x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let c0_i32_5 : BitVec 32 := 0#32
  ![c3_i32.toNat, v16.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x3x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutfinalrefIdeal.lean ====
abbrev S8192x2048 : Shape := ⟨2, ![8192, 2048]⟩
abbrev S2x2048x2048 : Shape := ⟨3, ![2, 2048, 2048]⟩
abbrev S4x4x3x2048 : Shape := ⟨4, ![4, 4, 3, 2048]⟩
abbrev S2048 : Shape := ⟨1, ![2048]⟩
abbrev S1x2048x2048 : Shape := ⟨3, ![1, 2048, 2048]⟩
abbrev S2048x2048 : Shape := ⟨2, ![2048, 2048]⟩
abbrev S1x4x1x2048 : Shape := ⟨4, ![1, 4, 1, 2048]⟩
abbrev S4x2048 : Shape := ⟨2, ![4, 2048]⟩
abbrev S4x2048x2048 : Shape := ⟨3, ![4, 2048, 2048]⟩
abbrev S4x1x2048 : Shape := ⟨3, ![4, 1, 2048]⟩
abbrev S_ : Shape := ⟨0, ![]⟩
abbrev S4x2048x1 : Shape := ⟨3, ![4, 2048, 1]⟩
abbrev S1x1x2048 : Shape := ⟨3, ![1, 1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S4x4x3x2048, .f32⟩
  | .hbm, ⟨4, _⟩ => ⟨S2048, .f32⟩
  | .hbm, ⟨5, _⟩ => ⟨S1x2048x2048, .f32⟩
  | .hbm, ⟨6, _⟩ => ⟨S2048x2048, .f32⟩
  | .hbm, ⟨7, _⟩ => ⟨S1x4x1x2048, .f32⟩
  | .hbm, ⟨8, _⟩ => ⟨S4x2048, .f32⟩
  | .hbm, ⟨9, _⟩ => ⟨S8192x2048, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .hbm, ⟨13, _⟩ => ⟨S4x1x2048, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1, .f32⟩
  | .hbm, ⟨28, _⟩ => ⟨S4x2048x2048, .f32⟩
  | .hbm, ⟨29, _⟩ => ⟨S4x2048x2048, .f32⟩
  | .hbm, ⟨30, _⟩ => ⟨S1x1x2048, .f32⟩
  | .hbm, ⟨31, _⟩ => ⟨S4x2048x2048, .f32⟩
  | .hbm, ⟨32, _⟩ => ⟨S4x2048x2048, .f32⟩
  | .hbm, ⟨33, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Modulation.lean ====
abbrev S16x2048 : Shape := ⟨2, ![16, 2048]⟩
abbrev S4x2048x6144 : Shape := ⟨3, ![4, 2048, 6144]⟩
abbrev S4x1x6144 : Shape := ⟨3, ![4, 1, 6144]⟩
abbrev S4x16x6144 : Shape := ⟨3, ![4, 16, 6144]⟩
abbrev S1x2048x1536 : Shape := ⟨3, ![1, 2048, 1536]⟩
abbrev S1x1x1536 : Shape := ⟨3, ![1, 1, 1536]⟩
abbrev S1x16x1536 : Shape := ⟨3, ![1, 16, 1536]⟩
abbrev S2048x1536 : Shape := ⟨2, ![2048, 1536]⟩
abbrev S16x1536 : Shape := ⟨2, ![16, 1536]⟩
abbrev S1x1536 : Shape := ⟨2, ![1, 1536]⟩

abbrev nBuf : Space → Nat
  | .hbm => 4
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S4x2048x6144, .f32⟩
  | .hbm, ⟨2, _⟩ => ⟨S4x1x6144, .f32⟩
  | .hbm, ⟨3, _⟩ => ⟨S4x16x6144, .f32⟩
  | .local _ .vmem, ⟨0, _⟩ => ⟨S16x2048, .f32⟩
  | .local _ .vmem, ⟨1, _⟩ => ⟨S1x2048x1536, .f32⟩
  | .local _ .vmem, ⟨2, _⟩ => ⟨S1x2048x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationrefIdeal.lean ====
abbrev S16x2048 : Shape := ⟨2, ![16, 2048]⟩
abbrev S4x2048x6144 : Shape := ⟨3, ![4, 2048, 6144]⟩
abbrev S4x1x6144 : Shape := ⟨3, ![4, 1, 6144]⟩
abbrev S_ : Shape := ⟨0, ![]⟩
abbrev S16x4x6144 : Shape := ⟨3, ![16, 4, 6144]⟩
abbrev S4x16x6144 : Shape := ⟨3, ![4, 16, 6144]⟩

abbrev nBuf : Space → Nat
  | .hbm => 16
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S4x2048x6144, .f32⟩
  | .hbm, ⟨2, _⟩ => ⟨S4x1x6144, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S16x4x6144, .f32⟩
  | .hbm, ⟨13, _⟩ => ⟨S4x16x6144, .f32⟩
  | .hbm, ⟨14, _⟩ => ⟨S4x16x6144, .f32⟩
  | .hbm, ⟨15, _⟩ => ⟨S4x16x6144, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Modulate.lean ====
abbrev S8192x2048 : Shape := ⟨2, ![8192, 2048]⟩
abbrev S4x1x2048 : Shape := ⟨3, ![4, 1, 2048]⟩
abbrev S4x4x3x2048 : Shape := ⟨4, ![4, 4, 3, 2048]⟩
abbrev S1x8192x2048 : Shape := ⟨3, ![1, 8192, 2048]⟩
abbrev S512x2048 : Shape := ⟨2, ![512, 2048]⟩
abbrev S1x1x2048 : Shape := ⟨3, ![1, 1, 2048]⟩
abbrev S1x1x3x2048 : Shape := ⟨4, ![1, 1, 3, 2048]⟩
abbrev S1x512x2048 : Shape := ⟨3, ![1, 512, 2048]⟩
abbrev S512 : Shape := ⟨1, ![512]⟩
abbrev S512x1 : Shape := ⟨2, ![512, 1]⟩
abbrev S64x128 : Shape := ⟨2, ![64, 128]⟩
abbrev S64x1 : Shape := ⟨2, ![64, 1]⟩
abbrev S1x1x128 : Shape := ⟨3, ![1, 1, 128]⟩
abbrev S1x128 : Shape := ⟨2, ![1, 128]⟩
abbrev S1x1x1x128 : Shape := ⟨4, ![1, 1, 1, 128]⟩
abbrev S1x64x128 : Shape := ⟨3, ![1, 64, 128]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S4x1x2048, .f32⟩
  | .hbm, ⟨2, _⟩ => ⟨S4x4x3x2048, .f32⟩
  | .hbm, ⟨3, _⟩ => ⟨S1x8192x2048, .bf16⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x3x2048, .f32⟩
  | .local _ .vmem, ⟨4, _⟩ => ⟨S1x1x3x2048, .f32⟩
  | .local _ .vmem, ⟨5, _⟩ => ⟨S1x512x2048, .bf16⟩
  | .local _ .vmem, ⟨6, _⟩ => ⟨S1x512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![c1_i32_4.toNat, v16.toNat, c0_i32_5.toNat, c0_i32_6.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x3x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulaterefIdeal.lean ====
abbrev S8192x2048 : Shape := ⟨2, ![8192, 2048]⟩
abbrev S4x1x2048 : Shape := ⟨3, ![4, 1, 2048]⟩
abbrev S4x4x3x2048 : Shape := ⟨4, ![4, 4, 3, 2048]⟩
abbrev S1x4x1x2048 : Shape := ⟨4, ![1, 4, 1, 2048]⟩
abbrev S4x2048 : Shape := ⟨2, ![4, 2048]⟩
abbrev S4x2048x2048 : Shape := ⟨3, ![4, 2048, 2048]⟩
abbrev S1x1x2048 : Shape := ⟨3, ![1, 1, 2048]⟩
abbrev S2048 : Shape := ⟨1, ![2048]⟩
abbrev S_ : Shape := ⟨0, ![]⟩
abbrev S4x2048x1 : Shape := ⟨3, ![4, 2048, 1]⟩
abbrev S1x8192x2048 : Shape := ⟨3, ![1, 8192, 2048]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x1x2048, .f32⟩
  | .hbm, ⟨2, _⟩ => ⟨S4x4x3x2048, .f32⟩
  | .hbm, ⟨3, _⟩ => ⟨S1x4x1x2048, .f32⟩
  | .hbm, ⟨4, _⟩ => ⟨S4x2048, .f32⟩
  | .hbm, ⟨5, _⟩ => ⟨S1x4x1x2048, .f32⟩
  | .hbm, ⟨6, _⟩ => ⟨S4x2048, .f32⟩
  | .hbm, ⟨7, _⟩ => ⟨S4x2048x2048, .f32⟩
  | .hbm, ⟨8, _⟩ => ⟨S1x1x2048, .f32⟩
  | .hbm, ⟨9, _⟩ => ⟨S2048, .f32⟩
  | .hbm, ⟨10, _⟩ => ⟨S4x2048x2048, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S4x2048x2048, .f32⟩
  | .hbm, ⟨22, _⟩ => ⟨S4x2048x2048, .f32⟩
  | .hbm, ⟨23, _⟩ => ⟨S1x1x2048, .f32⟩
  | .hbm, ⟨24, _⟩ => ⟨S4x2048x2048, .f32⟩
  | .hbm, ⟨25, _⟩ => ⟨S4x2048x2048, .f32⟩
  | .hbm, ⟨26, _⟩ => ⟨S4x1x2048, .f32⟩
  | .hbm, ⟨27, _⟩ => ⟨S_, .f32⟩
  | .hbm, ⟨28, _⟩ => ⟨S4x1x2048, .f32⟩
  | .hbm, ⟨29, _⟩ => ⟨S4x1x2048, .f32⟩
  | .hbm, ⟨30, _⟩ => ⟨S4x2048x2048, .f32⟩
  | .hbm, ⟨31, _⟩ => ⟨S4x2048x2048, .f32⟩
  | .hbm, ⟨32, _⟩ => ⟨S4x1x2048, .f32⟩
  | .hbm, ⟨33, _⟩ => ⟨S4x2048x2048, .f32⟩
  | .hbm, ⟨34, _⟩ => ⟨S4x2048x2048, .f32⟩
  | .hbm, ⟨35, _⟩ => ⟨S1x8192x2048, .f32⟩
  | .hbm, ⟨36, _⟩ => ⟨S1x8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Proof.SoftmaxMath.lean ====
/-
  Softmax over a window, in the extended reals.

  A row of scores holds real numbers and, at masked places, minus infinity. The weight of a score is its exponential, zero
  at minus infinity. Whatever real shift the exponentials are taken with, and to base two or to base e, the weighted
  sums change by one positive factor only. This gives the normalised output, the logarithm of the total weight, and the
  combination of three windows by their total weights.
-/
module

public import Idealize.ShloMosaic.PureOps.Ideal
public import Idealize.ShloMosaic.Lib.IdealHost
public import Mathlib.Data.Finset.Fold

@[expose] public section

noncomputable section

namespace Cert.Dilated
open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp2_real (r : ℝ) : Ideal.exp2 (r : EReal) = ((Real.exp (r * Real.log 2) : ℝ) : EReal) := by
  have h : Real.rpow 2 r = Real.exp (r * Real.log 2) := by
    show (2 : ℝ) ^ r = _
    rw [Real.rpow_def_of_pos (by norm_num), mul_comm]
  rw [Ideal.exp2_coe, h]

theorem log_real {r : ℝ} (h : 0 < r) : Ideal.log (r : EReal) = ((Real.log r : ℝ) : EReal) := by
  rw [Ideal.log_coe, if_neg (not_le.mpr h)]

theorem div_real (x : ℝ) {y : ℝ} (h : y ≠ 0) : Ideal.div (x : EReal) (y : EReal) = ((x / y : ℝ) : EReal) := by
  rw [Ideal.div_coe h, ← EReal.coe_mul]; congr 1; ring

theorem bits_neg_inf : Ideal.ofBits .f32 0xFF800000#32 = ⊥ := by simp [Ideal.ofBits, Ideal.ieee]

theorem log_two_ne : Real.log 2 ≠ 0 := (Real.log_pos (by norm_num)).ne'

/-- The weight of a score: its exponential, nothing at minus infinity. -/
def mass (x : EReal) : ℝ := (Ideal.exp x).toReal

theorem mass_bot : mass ⊥ = 0 := by simp [mass]
theorem mass_real (r : ℝ) : mass r = Real.exp r := by simp [mass]
theorem mass_nonneg (x : EReal) : 0 ≤ mass x := by
  rcases x with _ | _ | r
  · exact mass_bot.ge
  · exact le_of_eq (by show (0:ℝ) = (Ideal.exp ⊤).toReal; simp)
  · exact (mass_real r).ge.trans' (Real.exp_pos r).le

/-- The largest of a row of scores is a real number. -/
theorem top_real {ι : Type} [Fintype ι] (f : ι → EReal) (h : ∀ i, f i ≠ ⊤) (h' : ∃ i, f i ≠ ⊥) :
    ∃ M : ℝ, Finset.fold max (⊥ : EReal) f Finset.univ = (M : EReal) := by
  have hlt : Finset.fold max (⊥ : EReal) f Finset.univ < ⊤ :=
    (Finset.fold_max_lt (f := f) (b := ⊥) (s := Finset.univ) ⊤).mpr ⟨bot_lt_top, fun i _ => (h i).lt_top⟩
  have hgt : ⊥ < Finset.fold max (⊥ : EReal) f Finset.univ := by
    obtain ⟨i, hi⟩ := h'
    exact (Finset.lt_fold_max (f := f) (b := ⊥) (s := Finset.univ) ⊥).mpr (.inr ⟨i, Finset.mem_univ i, bot_lt_iff_ne_bot.mpr hi⟩)
  exact ⟨_, (EReal.coe_toReal hlt.ne hgt.ne').symm⟩

/-- Exponentials to base two, of scores shifted by `M` and scaled, are the weights of the scaled scores but for a factor. -/
theorem exp2_shift (x : EReal) (h : x ≠ ⊤) (M a : ℝ) (ha : 0 < a) :
    Ideal.exp2 ((x - (M : EReal)) * ((a * (Real.log 2)⁻¹ : ℝ) : EReal)) = ((Real.exp (-(M * a)) * mass (x * (a : EReal)) : ℝ) : EReal) := by
  have hl : 0 < (Real.log 2)⁻¹ := inv_pos.mpr (Real.log_pos (by norm_num))
  rcases x with _ | _ | r
  · show Ideal.exp2 (((⊥ : EReal) - M) * _) = ((Real.exp _ * mass ((⊥ : EReal) * a) : ℝ) : EReal)
    rw [EReal.bot_sub, EReal.bot_mul_coe_of_pos (mul_pos ha hl), EReal.bot_mul_coe_of_pos ha, mass_bot]
    simp
  · exact absurd rfl h
  · show Ideal.exp2 (((r : EReal) - M) * _) = ((Real.exp _ * mass ((r : EReal) * a) : ℝ) : EReal)
    rw [← EReal.coe_sub, ← EReal.coe_mul, ← EReal.coe_mul, exp2_real, mass_real, ← Real.exp_add]
    congr 2
    field_simp [log_two_ne]
    ring

/-- The same to base e. -/
theorem exp_shift (x : EReal) (h : x ≠ ⊤) (M : ℝ) :
    Ideal.exp (x - (M : EReal)) = ((Real.exp (-M) * mass x : ℝ) : EReal) := by
  rcases x with _ | _ | r
  · show Ideal.exp ((⊥ : EReal) - M) = ((Real.exp _ * mass (⊥ : EReal) : ℝ) : EReal)
    rw [EReal.bot_sub, mass_bot]; simp
  · exact absurd rfl h
  · show Ideal.exp ((r : EReal) - M) = ((Real.exp _ * mass (r : EReal) : ℝ) : EReal)
    rw [← EReal.coe_sub, Ideal.exp_coe, mass_real, ← Real.exp_add]
    congr 2; ring

/-- A row's weighted sum, with exponentials to base two of shifted scores. -/
theorem sum_shift {ι : Type} [Fintype ι] (f : ι → EReal) (h : ∀ i, f i ≠ ⊤) (M a : ℝ) (ha : 0 < a) (v : ι → ℝ) :
    (∑ i, Ideal.exp2 ((f i - (M : EReal)) * ((a * (Real.log 2)⁻¹ : ℝ) : EReal)) * ((v i : ℝ) : EReal))
      = ((Real.exp (-(M * a)) * ∑ i, mass (f i * (a : EReal)) * v i : ℝ) : EReal) := by
  rw [Finset.mul_sum, coe_sum]
  refine Finset.sum_congr (M := EReal) rfl fun i _ => ?_
  rw [exp2_shift (f i) (h i) M a ha, ← EReal.coe_mul]
  congr 1; ring

/-- The normalised output does not depend on the shift. -/
theorem out_shift (M a N : ℝ) {Z : ℝ} (hZ : 0 < Z) :
    Ideal.div ((Real.exp (-(M * a)) * N : ℝ) : EReal) ((Real.exp (-(M * a)) * Z : ℝ) : EReal) = ((N / Z : ℝ) : EReal) := by
  rw [div_real _ (mul_pos (Real.exp_pos _) hZ).ne', mul_div_mul_left _ _ (Real.exp_pos _).ne']

/-- Nor does the logarithm of the total weight. -/
theorem lse_shift (M a : ℝ) {Z : ℝ} (hZ : 0 < Z) :
    (M : EReal) * ((a * (Real.log 2)⁻¹ : ℝ) : EReal) + Ideal.log ((Real.exp (-(M * a)) * Z : ℝ) : EReal) * (((Real.log 2)⁻¹ : ℝ) : EReal)
      = ((Real.log Z * (Real.log 2)⁻¹ : ℝ) : EReal) := by
  rw [log_real (mul_pos (Real.exp_pos _) hZ), ← EReal.coe_mul, ← EReal.coe_mul, ← EReal.coe_add, Real.log_mul (Real.exp_pos _).ne' hZ.ne', Real.log_exp]
  congr 1; ring

/-- A power of two of a scaled logarithm, less a shift. -/
theorem exp2_log {Z : ℝ} (hZ : 0 < Z) (m : ℝ) :
    Ideal.exp2 (((Real.log Z * (Real.log 2)⁻¹ : ℝ) : EReal) - (m : EReal)) = ((Real.exp (-(m * Real.log 2)) * Z : ℝ) : EReal) := by
  rw [← EReal.coe_sub, exp2_real]
  congr 1
  have h : (Real.log Z * (Real.log 2)⁻¹ - m) * Real.log 2 = -(m * Real.log 2) + Real.log Z := by
    field_simp [log_two_ne]
    ring
  rw [h, Real.exp_add, Real.exp_log hZ]

/-- Three windows combine as one: the weighted sums over the total weights. -/
theorem combine_real (M a m N0 N1 N2 : ℝ) {Z0 Z1 Z2 : ℝ} (h0 : 0 < Z0) (h1 : 0 < Z1) (h2 : 0 < Z2) :
    Ideal.div
      (Ideal.exp2 ((M : EReal) * ((a * (Real.log 2)⁻¹ : ℝ) : EReal) - (m : EReal)) * ((Real.exp (-(M * a)) * N0 : ℝ) : EReal)
        + Ideal.exp2 (((Real.log Z1 * (Real.log 2)⁻¹ : ℝ) : EReal) - (m : EReal)) * ((N1 / Z1 : ℝ) : EReal)
        + Ideal.exp2 (((Real.log Z2 * (Real.log 2)⁻¹ : ℝ) : EReal) - (m : EReal)) * ((N2 / Z2 : ℝ) : EReal))
      (Ideal.exp2 ((M : EReal) * ((a * (Real.log 2)⁻¹ : ℝ) : EReal) - (m : EReal)) * ((Real.exp (-(M * a)) * Z0 : ℝ) : EReal)
        + Ideal.exp2 (((Real.log Z1 * (Real.log 2)⁻¹ : ℝ) : EReal) - (m : EReal))
        + Ideal.exp2 (((Real.log Z2 * (Real.log 2)⁻¹ : ℝ) : EReal) - (m : EReal)))
      = (((N0 + N1 + N2) / (Z0 + Z1 + Z2) : ℝ) : EReal) := by
  have h : Ideal.exp2 ((M : EReal) * ((a * (Real.log 2)⁻¹ : ℝ) : EReal) - (m : EReal)) = ((Real.exp (-(m * Real.log 2)) * Real.exp (M * a) : ℝ) : EReal) := by
    rw [← EReal.coe_mul, ← EReal.coe_sub, exp2_real, ← Real.exp_add]
    congr 2
    field_simp [log_two_ne]
    ring
  have hE : Real.exp (M * a) * Real.exp (-(M * a)) = 1 := by rw [← Real.exp_add]; simp
  rw [h, exp2_log h1, exp2_log h2]
  simp only [← EReal.coe_mul, ← EReal.coe_add]
  set e := Real.exp (-(m * Real.log 2))
  have he : 0 < e := Real.exp_pos _
  have hn : e * Real.exp (M * a) * (Real.exp (-(M * a)) * N0) + e * Z1 * (N1 / Z1) + e * Z2 * (N2 / Z2) = e * (N0 + N1 + N2) := by
    have : e * Real.exp (M * a) * (Real.exp (-(M * a)) * N0) = e * N0 * (Real.exp (M * a) * Real.exp (-(M * a))) := by ring
    rw [this, hE]
    field_simp
  have hd : e * Real.exp (M * a) * (Real.exp (-(M * a)) * Z0) + e * Z1 + e * Z2 = e * (Z0 + Z1 + Z2) := by
    have : e * Real.exp (M * a) * (Real.exp (-(M * a)) * Z0) = e * Z0 * (Real.exp (M * a) * Real.exp (-(M * a))) := by ring
    rw [this, hE]; ring
  rw [hn, hd, div_real _ (by positivity), mul_div_mul_left _ _ he.ne']

/-- The gate. -/
def silu (z : ℝ) : ℝ := z / (1 + Real.exp (-z))

theorem silu_real (z : ℝ) : Ideal.div (z : EReal) (1 + Ideal.exp (0 - (z : EReal))) = (silu z : EReal) := by
  have h : (0 : EReal) - (z : EReal) = ((-z : ℝ) : EReal) := by rw [zero_sub, EReal.coe_neg]
  have hp : (1 + Real.exp (-z)) ≠ 0 := (add_pos one_pos (Real.exp_pos _)).ne'
  rw [h, Ideal.exp_coe, ← EReal.coe_one, ← EReal.coe_add, div_real z hp]; rfl

/-- A sum over the keys of a block is a sum over all positions, the others having no weight. -/
theorem sum_keys {K : Type} [Fintype K] {n : ℕ} (pos : K → Fin n) (hpos : Function.Injective pos)
    (W : Fin n → ℝ) (hW : ∀ t, W t ≠ 0 → ∃ k, pos k = t) (f : Fin n → ℝ) :
    (∑ k, W (pos k) * f (pos k)) = ∑ t, W t * f t := by
  classical
  rw [← Finset.sum_image (s := Finset.univ) (f := fun t => W t * f t) (g := pos) (fun a _ b _ h => hpos h)]
  refine Finset.sum_subset (Finset.subset_univ _) fun t _ ht => ?_
  by_contra hc
  obtain ⟨k, hk⟩ := hW t (left_ne_zero_of_mul hc)
  exact ht (Finset.mem_image.mpr ⟨k, Finset.mem_univ k, hk⟩)

end Cert.Dilated
-- ==== Proof.InputsReal.lean ====
/-
  What the precondition says at the reals: every entry of both arguments is a real number.
-/
module

public import proofs.«01_k».proof.Proof.Gen.Pre_finite
public import proofs.«01_k».proof.Proof.SoftmaxMath
public import Idealize.ShloMosaic.Lib.ReduceAll

@[expose] public section

noncomputable section

namespace Cert.Pre_finite
open Cert.Pre_finite Cert.Pre_finite.Gen Cert.Dilated Idealize.ShloMosaic

theorem bits_pos_inf : Ideal.ofBits .f32 0x7F800000#32 = ⊤ := by simp [Ideal.ofBits, Ideal.ieee]

/-- A value above the least and below the greatest extended real is neither. -/
theorem within (x : EReal) (h : Ideal.cmp .ogt x (Ideal.ofBits .f32 0xFF800000#32) = 1#1 ∧ Ideal.cmp .olt x (Ideal.ofBits .f32 0x7F800000#32) = 1#1) : x ≠ ⊥ ∧ x ≠ ⊤ := by
  rw [bits_neg_inf, bits_pos_inf] at h
  constructor
  · rintro rfl; simp [Ideal.cmp] at h
  · rintro rfl; simp [Ideal.cmp] at h

instance : Subsingleton S_.Idx := ⟨fun _ _ => funext fun a => a.elim0⟩

theorem entries_real (s : FVec Ideal S16 .f32) (x : FVec Ideal S4x2048x20480 .bf16) (h : fn (F := Ideal) s x = fun _ => 1#1) :
    (∀ i, s i ≠ (⊥ : EReal) ∧ s i ≠ (⊤ : EReal)) ∧ ∀ i, x i ≠ (⊥ : EReal) ∧ x i ≠ (⊤ : EReal) := by
  have h0 := IntOp.andi_eq_one.1 (congrFun h (fun a => a.elim0))
  exact ⟨fun i => within _ (IntOp.andi_eq_one.1 (Host.reduce_andi_all _ _ _ _ _ h0.1 i)),
    fun i => within _ (IntOp.andi_eq_one.1 (Host.reduce_andi_all _ _ _ _ _ h0.2 i))⟩

end Cert.Pre_finite

end
-- ==== Proof.DilatedTasks.lean ====
/-
  The dilated attention kernel, task by task.

  One instance of the kernel works on one batch and one head. It stores, for each of the three dilations, what its
  queries collect from their windows, and combines the three. Here every store of the kernel is named: which rows it
  writes, and which of five functions of the loaded blocks it writes there. The five functions are: scores of a query
  block against 128 or 256 keys, and the weighted sums over them; the normalised output and the logarithm of its weight;
  the final combination.
-/
module

public import proofs.«01_k».proof.Proof.Gen.KernelIdeal.Value

@[expose] public section
set_option maxRecDepth 200000

noncomputable section

namespace Cert.KernelIdeal.Value
open Cert.KernelIdeal Cert.KernelIdeal.Gen Idealize.ShloMosaic Idealize.ShloMosaic.TcCoe Idealize.SL.Sem

variable {F : FTy → Type} [FloatOps F] [Named F]

/-- The bias of a query block against its own 128 keys. -/
def bias128 (slope : Elt F .f32) (dilation : BitVec 32) : FVec F S128x128 .f32 :=
  let step : IVec S128x128 32 := addi (subi (iota .tc S128x128 32 [0] iota_S128x128_d0_w32) (iota .tc S128x128 32 [1] iota_S128x128_d1_w32)) (broadcast S128x128 0#32)
  select (andi (cmpi .sge step (broadcast S128x128 0#32)) (cmpi .sle step (broadcast S128x128 128#32)))
    (mulf (broadcast S128x128 (Scalar.divf (Scalar.mulf (Scalar.subf (Scalar.ofBits .f32 0x00000000#32 : F .f32) slope) (Scalar.ofBits .f32 dilation)) (Named.named κ "scale" 0x3DB504F3#32)))
      (sitofp .f32 step))
    (broadcast S128x128 (Named.named κ "mask" 0xF149F2CA#32))

/-- The bias of a query block against the 128 keys before it and its own. -/
def bias256 (slope : Elt F .f32) (dilation : BitVec 32) : FVec F S128x256 .f32 :=
  let step : IVec S128x256 32 := addi (subi (iota .tc S128x256 32 [0] iota_S128x256_d0_w32) (iota .tc S128x256 32 [1] iota_S128x256_d1_w32)) (broadcast S128x256 128#32)
  select (andi (cmpi .sge step (broadcast S128x256 0#32)) (cmpi .sle step (broadcast S128x256 128#32)))
    (mulf (broadcast S128x256 (Scalar.divf (Scalar.mulf (Scalar.subf (Scalar.ofBits .f32 0x00000000#32 : F .f32) slope) (Scalar.ofBits .f32 dilation)) (Named.named κ "scale" 0x3DB504F3#32)))
      (sitofp .f32 step))
    (broadcast S128x256 (Named.named κ "mask" 0xF149F2CA#32))

/-- Scores of 128 queries against 128 keys. -/
def score128 (b : FVec F S128x128 .f32) (q k : FVec F S128x128 .bf16) : FVec F S128x128 .f32 :=
  addf (matmul dot_S128x128_S128x128_S128x128_1_1_0_0_n_n none q k (constant S128x128 .f32 0x00000000#32)) b

/-- Scores of 128 queries against 256 keys. -/
def score256 (b : FVec F S128x256 .f32) (q : FVec F S128x128 .bf16) (k : FVec F S256x128 .bf16) : FVec F S128x256 .f32 :=
  addf (matmul dot_S128x128_S256x128_S128x256_1_1_0_0_n_n none q k (constant S128x256 .f32 0x00000000#32)) b

/-- The largest score of a row. -/
def top128 (d : FVec F S128x128 .f32) : FVec F S128x1 .f32 :=
  shapeCast S128x1 (multiReduction .maximumf [1] S128 d 0xFF800000#32 reduces_S128x128_S128 (.inl rfl) rfl) shapeCasts_S128_S128x1

def top256 (d : FVec F S128x256 .f32) : FVec F S128x1 .f32 :=
  shapeCast S128x1 (multiReduction .maximumf [1] S128 d 0xFF800000#32 reduces_S128x256_S128 (.inl rfl) rfl) shapeCasts_S128_S128x1

/-- The weighted values and, in the second half of the lanes, the sum of the weights: 128 keys. -/
def collect128 (d : FVec F S128x128 .f32) (v : FVec F S128x128 .bf16) : FVec F S128x256 .f32 :=
  matmul dot_S128x128_S128x256_S128x256_1_0_0_1_n_n none
    (truncf .bf16 (exp2 (mulf (subf d (broadcastTo S128x128 (top128 d) broadcasts_S128x1_S128x128)) (broadcast S128x128 (Named.named κ "exp2_scale" 0x3E0293EE#32)))) bitsLt_bf16_f32)
    (concatenate S128x256 1 [⟨S128x128, v⟩, ⟨S128x128, broadcast S128x128 (Scalar.ofBits .bf16 0x3F80#16 : F .bf16)⟩] concatenates_S128x128_S128x128_S128x256_d1)
    (constant S128x256 .f32 0x00000000#32)

/-- The same with 256 keys. -/
def collect256 (d : FVec F S128x256 .f32) (v : FVec F S256x128 .bf16) : FVec F S128x256 .f32 :=
  matmul dot_S128x256_S256x256_S128x256_1_0_0_1_n_n none
    (truncf .bf16 (exp2 (mulf (subf d (broadcastTo S128x256 (top256 d) broadcasts_S128x1_S128x256)) (broadcast S128x256 (Named.named κ "exp2_scale" 0x3E0293EE#32)))) bitsLt_bf16_f32)
    (concatenate S256x256 1 [⟨S256x128, v⟩, ⟨S256x128, broadcast S256x128 (Scalar.ofBits .bf16 0x3F80#16 : F .bf16)⟩] concatenates_S256x128_S256x128_S256x256_d1)
    (constant S128x256 .f32 0x00000000#32)

def sums (a : FVec F S128x256 .f32) : FVec F S128x128 .f32 := extractStridedSlice S128x128 ![0, 0] a slices_S128x256_o0_0_S128x128
def weights (a : FVec F S128x256 .f32) : FVec F S128x128 .f32 := extractStridedSlice S128x128 ![0, 128] a slices_S128x256_o0_128_S128x128
/-- The largest scores in every lane, scaled. -/
def tops (m : FVec F S128x1 .f32) : FVec F S128x128 .f32 :=
  mulf (broadcastTo S128x128 (shapeCast S128x1 m shapeCasts_S128x1_S128x1) broadcasts_S128x1_S128x128) (broadcast S128x128 (Named.named κ "exp2_scale" 0x3E0293EE#32))

/-- The normalised output of a window. -/
def outOf (a : FVec F S128x256 .f32) : FVec F S128x128 .f32 :=
  shapeCast S128x128 (divf (sums a) (weights a)) shapeCasts_S128x128_S128x128
/-- The logarithm, to base two, of a window's weight. -/
def lseOf (m : FVec F S128x1 .f32) (a : FVec F S128x256 .f32) : FVec F S128x128 .f32 :=
  shapeCast S128x128 (addf (tops m) (mulf (log (weights a)) (broadcast S128x128 (Named.named κ "log2e" 0x3FB8AA3B#32)))) shapeCasts_S128x128_S128x128

/-- The combination of the three dilations and the gate. -/
def combine (m : FVec F S128x1 .f32) (a : FVec F S128x256 .f32) (lse1 lse2 out1 out2 : Vec F S128x128 .f32) (z : Vec F S1x128x128 .bf16) : FVec F S1x128x128 .bf16 :=
  let s0 := tops m
  let mx := maximumf (maximumf s0 lse1) lse2
  let w0 := exp2 (subf s0 mx)
  let w1 := exp2 (subf lse1 mx)
  let w2 := exp2 (subf lse2 mx)
  let num := addf (addf (mulf w0 (sums a)) (mulf w1 out1)) (mulf w2 out2)
  let den := addf (addf (mulf w0 (weights a)) w1) w2
  let zf : FVec F S128x128 .f32 := extf .f32 (shapeCast S128x128 z shapeCasts_S1x128x128_S128x128) bitsLt_bf16_f32
  let silu := divf zf (addf (broadcast S128x128 (Scalar.ofBits .f32 0x3F800000#32)) (exp (subf (broadcast S128x128 (Scalar.ofBits .f32 0x00000000#32)) zf)))
  shapeCast S1x128x128 (truncf .bf16 (mulf (divf num den) silu) bitsLt_bf16_f32) shapeCasts_S128x128_S1x128x128

abbrev Block := Memref sig .tc .vmem S1x2048x128 .bf16

/-- 128, 256 or 32 rows of a block. -/
def rows (a : Block) (ha : a.IsWhole) (x : Vec F S1x2048x128 .bf16) (s : ℕ) (hs : s + 128 ≤ 2048) : Vec F S1x128x128 .bf16 :=
  View.readAt (Elt F) a.view (Rect.unit (s := S1x2048x128) ![0, s, 0] S1x128x128.size (by intro k; fin_cases k <;> simp [S1x128x128, S1x2048x128, hs])).toLoadRect (ha.unread x)
def rows256 (a : Block) (ha : a.IsWhole) (x : Vec F S1x2048x128 .bf16) (s : ℕ) (hs : s + 256 ≤ 2048) : Vec F S1x256x128 .bf16 :=
  View.readAt (Elt F) a.view (Rect.unit (s := S1x2048x128) ![0, s, 0] S1x256x128.size (by intro k; fin_cases k <;> simp [S1x256x128, S1x2048x128, hs])).toLoadRect (ha.unread x)
def rows32 (a : Block) (ha : a.IsWhole) (x : Vec F S1x2048x128 .bf16) (s : ℕ) (hs : s + 32 ≤ 2048) : Vec F S1x32x128 .bf16 :=
  View.readAt (Elt F) a.view (Rect.unit (s := S1x2048x128) ![0, s, 0] S1x32x128.size (by intro k; fin_cases k <;> simp [S1x32x128, S1x2048x128, hs])).toLoadRect (ha.unread x)

def one (a : Block) (ha : a.IsWhole) (x : Vec F S1x2048x128 .bf16) (s : ℕ) (hs : s + 128 ≤ 2048) : FVec F S128x128 .bf16 :=
  shapeCast S128x128 (rows a ha x s hs) shapeCasts_S1x128x128_S128x128
/-- Two blocks of 128 rows, one above the other. -/
def two (a : Block) (ha : a.IsWhole) (x : Vec F S1x2048x128 .bf16) (s s' : ℕ) (hs : s + 128 ≤ 2048) (hs' : s' + 128 ≤ 2048) : FVec F S256x128 .bf16 :=
  concatenate S256x128 0 [⟨S128x128, one a ha x s hs⟩, ⟨S128x128, one a ha x s' hs'⟩] concatenates_S128x128_S128x128_S256x128_d0
/-- 32 rows of each of the four tiles, one above the other. -/
def four (a : Block) (ha : a.IsWhole) (x : Vec F S1x2048x128 .bf16) (s : ℕ) (hs : s + 32 ≤ 512) : FVec F S128x128 .bf16 :=
  concatenate S128x128 0 [⟨S32x128, shapeCast S32x128 (rows32 a ha x (0 + s) (by omega)) shapeCasts_S1x32x128_S32x128⟩, ⟨S32x128, shapeCast S32x128 (rows32 a ha x (512 + s) (by omega)) shapeCasts_S1x32x128_S32x128⟩, ⟨S32x128, shapeCast S32x128 (rows32 a ha x (1024 + s) (by omega)) shapeCasts_S1x32x128_S32x128⟩, ⟨S32x128, shapeCast S32x128 (rows32 a ha x (1536 + s) (by omega)) shapeCasts_S1x32x128_S32x128⟩] concatenates_S32x128_S32x128_S32x128_S32x128_S128x128_d0

section tasks
variable (c : Dev nD) (i : grid0.Coords) (arg2 : Memref sig .tc .smem S16 .f32) (harg2 : arg2.IsWhole)
  (arg3 : Block) (harg3 : arg3.IsWhole) (arg4 : Block) (harg4 : arg4.IsWhole) (arg5 : Block) (harg5 : arg5.IsWhole)
  (arg6 : Block) (harg6 : arg6.IsWhole) (arg7 : Block) (harg7 : arg7.IsWhole) (arg8 : Block) (harg8 : arg8.IsWhole)
  (arg9 : Block) (harg9 : arg9.IsWhole) (arg10 : Block) (harg10 : arg10.IsWhole) (arg11 : Block) (harg11 : arg11.IsWhole)
  (arg12 : Block) (harg12 : arg12.IsWhole)
  (x0 : Vec F S16 .f32) (x1 x2 x3 x4 x5 x6 x7 x8 x9 x10 : Vec F S1x2048x128 .bf16)

/-- The slope of the head. -/
def slope : Elt F .f32 := kernelRun0_A.sl.r c i arg2 harg2 x0

/-- Dilation four, residue r, query block n: the row maxima and the collected sums. -/
def task1 (r n : Fin 4) : FVec F S128x1 .f32 × FVec F S128x256 .f32 :=
  match n with
  | ⟨0, _⟩ =>
    let d := score128 (bias128 (slope c i arg2 harg2 x0) 0x40800000#32) (one arg6 harg6 x4 (r * 128) (by omega)) (one arg7 harg7 x5 (r * 128) (by omega))
    (top128 d, collect128 d (one arg8 harg8 x6 (r * 128) (by omega)))
  | ⟨n + 1, h⟩ =>
    let d := score256 (bias256 (slope c i arg2 harg2 x0) 0x40800000#32) (one arg6 harg6 x4 ((n + 1) * 512 + r * 128) (by omega))
      (two arg7 harg7 x5 (n * 512 + r * 128) ((n + 1) * 512 + r * 128) (by omega) (by omega))
    (top256 d, collect256 d (two arg8 harg8 x6 (n * 512 + r * 128) ((n + 1) * 512 + r * 128) (by omega) (by omega)))

/-- The rows it is stored at. -/
def rect1 (r n : Fin 4) : Rect S2048x128 where
  off := ![n * 512 + r, 0]
  size := S128x128.size
  stride := ![4, 1]
  inb := by intro a; fin_cases a <;> simp [S128x128, S2048x128]; omega
  stride_pos := by intro a; fin_cases a <;> simp

def all1 : List (Fin 4 × Fin 4) := [(3, 3), (3, 2), (3, 1), (3, 0), (2, 3), (2, 2), (2, 1), (2, 0), (1, 3), (1, 2), (1, 1), (1, 0), (0, 3), (0, 2), (0, 1), (0, 0)]

theorem out1_pieces : kernelRun0_A.sl.HS0_16 c i arg2 harg2 arg6 harg6 arg7 harg7 arg8 harg8 x0 x4 x5 x6
    = all1.map fun p => ⟨rect1 p.1 p.2, outOf (task1 c i arg2 harg2 arg6 harg6 arg7 harg7 arg8 harg8 x0 x4 x5 x6 p.1 p.2).2⟩ := by
  rfl

theorem lse1_pieces : kernelRun0_A.sl.HS1_16 c i arg2 harg2 arg6 harg6 arg7 harg7 arg8 harg8 x0 x4 x5 x6
    = all1.map fun p => ⟨rect1 p.1 p.2, lseOf (task1 c i arg2 harg2 arg6 harg6 arg7 harg7 arg8 harg8 x0 x4 x5 x6 p.1 p.2).1 (task1 c i arg2 harg2 arg6 harg6 arg7 harg7 arg8 harg8 x0 x4 x5 x6 p.1 p.2).2⟩ := by
  rfl

/-- Dilation sixteen, residue b + 4 e. -/
def task2 (b e : Fin 4) : FVec F S128x1 .f32 × FVec F S128x256 .f32 :=
  let d := score128 (bias128 (slope c i arg2 harg2 x0) 0x41800000#32) (four arg9 harg9 x7 ((4 * e + b) * 32) (by omega)) (four arg10 harg10 x8 ((4 * e + b) * 32) (by omega))
  (top128 d, collect128 d (four arg11 harg11 x9 ((4 * e + b) * 32) (by omega)))

/-- The rows it is first stored at. -/
def rect2 (b e : Fin 4) : Rect S2048x128 where
  off := ![b * 512 + e, 0]
  size := S128x128.size
  stride := ![4, 1]
  inb := by intro a; fin_cases a <;> simp [S128x128, S2048x128]; omega
  stride_pos := by intro a; fin_cases a <;> simp

theorem tout2_pieces : kernelRun0_A.sl.HS4_16 c i arg2 harg2 arg9 harg9 arg10 harg10 arg11 harg11 x0 x7 x8 x9
    = all1.map fun p => ⟨rect2 p.2 p.1, outOf (task2 c i arg2 harg2 arg9 harg9 arg10 harg10 arg11 harg11 x0 x7 x8 x9 p.2 p.1).2⟩ := by
  rfl

theorem tlse2_pieces : kernelRun0_A.sl.HS5_16 c i arg2 harg2 arg9 harg9 arg10 harg10 arg11 harg11 x0 x7 x8 x9
    = all1.map fun p => ⟨rect2 p.2 p.1, lseOf (task2 c i arg2 harg2 arg9 harg9 arg10 harg10 arg11 harg11 x0 x7 x8 x9 p.2 p.1).1 (task2 c i arg2 harg2 arg9 harg9 arg10 harg10 arg11 harg11 x0 x7 x8 x9 p.2 p.1).2⟩ := by
  rfl

/-- A fourth of the rows, and the rows four apart it moves to. -/
def part2 (b : Fin 4) : Rect S2048x128 := Rect.unit (s := S2048x128) ![b * 512, 0] S512x128.size (by intro a; fin_cases a <;> simp [S512x128, S2048x128]; omega)
def hop2 (b : Fin 4) : Rect S2048x128 where
  off := ![b, 0]
  size := S512x128.size
  stride := ![4, 1]
  inb := by intro a; fin_cases a <;> simp [S512x128, S2048x128]; omega
  stride_pos := by intro a; fin_cases a <;> simp

abbrev Scratch := Memref sig .tc .vmem S2048x128 .f32

theorem out2_pieces (arg18 : Scratch) : kernelRun0_A.sl.HS2_4 c i arg2 harg2 arg9 harg9 arg10 harg10 arg11 harg11 arg18 x0 x7 x8 x9
    = [3, 2, 1, 0].map fun b : Fin 4 => ⟨hop2 b, shapeCast S512x128 (arg18.view.readCov (kernelRun0_A.sl.HS4_16 c i arg2 harg2 arg9 harg9 arg10 harg10 arg11 harg11 x0 x7 x8 x9) (part2 b).toLoadRect) shapeCasts_S512x128_S512x128⟩ := by
  rfl

theorem lse2_pieces (arg19 : Scratch) : kernelRun0_A.sl.HS3_4 c i arg2 harg2 arg9 harg9 arg10 harg10 arg11 harg11 arg19 x0 x7 x8 x9
    = [3, 2, 1, 0].map fun b : Fin 4 => ⟨hop2 b, shapeCast S512x128 (arg19.view.readCov (kernelRun0_A.sl.HS5_16 c i arg2 harg2 arg9 harg9 arg10 harg10 arg11 harg11 x0 x7 x8 x9) (part2 b).toLoadRect) shapeCasts_S512x128_S512x128⟩ := by
  rfl

/-- Dilation one, query block n. -/
def task0 (n : Fin 16) : FVec F S128x1 .f32 × FVec F S128x256 .f32 :=
  match n with
  | ⟨0, _⟩ =>
    let d := score128 (bias128 (slope c i arg2 harg2 x0) 0x3F800000#32) (one arg3 harg3 x1 0 (by omega)) (one arg4 harg4 x2 0 (by omega))
    (top128 d, collect128 d (one arg5 harg5 x3 0 (by omega)))
  | ⟨n + 1, h⟩ =>
    let d := score256 (bias256 (slope c i arg2 harg2 x0) 0x3F800000#32) (one arg3 harg3 x1 ((n + 1) * 128) (by omega))
      (shapeCast S256x128 (rows256 arg4 harg4 x2 (n * 128) (by omega)) shapeCasts_S1x256x128_S256x128)
    (top256 d, collect256 d (shapeCast S256x128 (rows256 arg5 harg5 x3 (n * 128) (by omega)) shapeCasts_S1x256x128_S256x128))

/-- The block of rows n of a scratch array. -/
def tile (n : Fin 16) : Rect S2048x128 := Rect.unit (s := S2048x128) ![n * 128, 0] S128x128.size (by intro a; fin_cases a <;> simp [S128x128, S2048x128]; omega)
/-- The block of rows n of the output. -/
def tileOut (n : Fin 16) : Rect S1x2048x128 := Rect.unit (s := S1x2048x128) ![0, n * 128, 0] S1x128x128.size (by intro a; fin_cases a <;> simp [S1x128x128, S1x2048x128]; omega)

/-- What query block n stores. -/
def store0 (arg14 arg15 arg16 arg17 arg18 arg19 : Scratch) (n : Fin 16) : FVec F S1x128x128 .bf16 :=
  combine (task0 c i arg2 harg2 arg3 harg3 arg4 harg4 arg5 harg5 x0 x1 x2 x3 n).1 (task0 c i arg2 harg2 arg3 harg3 arg4 harg4 arg5 harg5 x0 x1 x2 x3 n).2
    (arg15.view.readCov (kernelRun0_A.sl.HS1_16 c i arg2 harg2 arg6 harg6 arg7 harg7 arg8 harg8 x0 x4 x5 x6) (tile n).toLoadRect)
    (arg17.view.readCov (kernelRun0_A.sl.HS3_4 c i arg2 harg2 arg9 harg9 arg10 harg10 arg11 harg11 arg19 x0 x7 x8 x9) (tile n).toLoadRect)
    (arg14.view.readCov (kernelRun0_A.sl.HS0_16 c i arg2 harg2 arg6 harg6 arg7 harg7 arg8 harg8 x0 x4 x5 x6) (tile n).toLoadRect)
    (arg16.view.readCov (kernelRun0_A.sl.HS2_4 c i arg2 harg2 arg9 harg9 arg10 harg10 arg11 harg11 arg18 x0 x7 x8 x9) (tile n).toLoadRect)
    (rows arg12 harg12 x10 (n * 128) (by omega))

def all0 : List (Fin 16) := [15, 14, 13, 12, 11, 10, 9, 8, 7, 6, 5, 4, 3, 2, 1, 0]

theorem run_pieces (arg13 : Block) (harg13 : arg13.IsWhole) (arg14 : Scratch) (harg14 : arg14.IsWhole) (arg15 : Scratch) (harg15 : arg15.IsWhole)
    (arg16 : Scratch) (harg16 : arg16.IsWhole) (arg17 : Scratch) (harg17 : arg17.IsWhole) (arg18 : Scratch) (harg18 : arg18.IsWhole) (arg19 : Scratch) (harg19 : arg19.IsWhole) :
    (kernelRun0_A c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 x0 x1 x2 x3 x4 x5 x6 x7 x8 x9 x10).1
    = all0.map fun n => ⟨tileOut n, store0 c i arg2 harg2 arg3 harg3 arg4 harg4 arg5 harg5 arg6 harg6 arg7 harg7 arg8 harg8 arg9 harg9 arg10 harg10 arg11 harg11 arg12 harg12
      x0 x1 x2 x3 x4 x5 x6 x7 x8 x9 x10 arg14 arg15 arg16 arg17 arg18 arg19 n⟩ := by
  rfl

end tasks

/-- The output block of an iteration is the sixteen stored blocks. -/
theorem out_pieces (m : (ℓ : Loc nD τ sig) → Buf (Elt F) ℓ) (c : Dev nD) (t : Fin cfg0.N) :
    outsAt0 m c t = View.canon (all0.map fun n => ⟨tileOut n, store0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      (iblk m c 0 t) (iblk m c 1 t) (iblk m c 2 t) (iblk m c 3 t) (iblk m c 4 t) (iblk m c 5 t) (iblk m c 6 t) (iblk m c 7 t) (iblk m c 8 t) (iblk m c 9 t) (iblk m c 10 t)
      scM0_0 scM0_1 scM0_2 scM0_3 scM0_4 scM0_5 n⟩) := by
  unfold outsAt0 out0_A_11
  rw [run_pieces]
  funext y
  exact View.read_writes_junk_apply_eq_canon VO0_11 y _

end Cert.KernelIdeal.Value
-- ==== Proof.WindowSpec.lean ====
/-
  Causal dilated windows.

  A query at position t sees the positions t, t - d, t - 2 d, ... down to t - 128 d. Its score against a key is the product
  of the two over the square root of 128, less the slope times the distance. This module states the weights, their
  sum and the weighted sum of values over all positions, and shows what a row of scores against only some keys collects.
-/
module

public import proofs.«01_k».proof.Proof.SoftmaxMath

@[expose] public section

noncomputable section

namespace Cert.Dilated
open Idealize.ShloMosaic

/-- The scale of the scores. -/
def scale : ℝ := (Real.sqrt 128)⁻¹

theorem scale_pos : 0 < scale := inv_pos.mpr (Real.sqrt_pos.mpr (by norm_num))

/-- Position t' is in the window of t at dilation d. -/
def Sees (d : ℕ) (t t' : Fin 2048) : Prop := t'.val ≤ t.val ∧ t.val - t'.val ≤ 128 * d ∧ d ∣ (t.val - t'.val)

section
variable (d : ℕ) (s : ℝ) (q k v : Fin 2048 → Fin 128 → ℝ)

/-- The score of a key in the window. -/
def logit (t t' : Fin 2048) : ℝ := (∑ l, q t l * k t' l) * scale - s * ((t.val : ℝ) - (t'.val : ℝ))

open Classical in
/-- The score of any key: minus infinity outside of the window. -/
def score (t t' : Fin 2048) : EReal := if Sees d t t' then (logit s q k t t' : EReal) else ⊥

/-- The weight of a key, the total weight, and the weighted sum of the values. -/
def weight (t t' : Fin 2048) : ℝ := mass (score d s q k t t')
def total (t : Fin 2048) : ℝ := ∑ t', weight d s q k t t'
def collected (t : Fin 2048) (e : Fin 128) : ℝ := ∑ t', weight d s q k t t' * v t' e

theorem score_ne_top (t t' : Fin 2048) : score d s q k t t' ≠ ⊤ := by
  unfold score; split_ifs <;> simp

theorem sees_self (t : Fin 2048) : Sees d t t := ⟨le_rfl, by simp, by simp⟩

theorem score_self (t : Fin 2048) : score d s q k t t = (logit s q k t t : EReal) := if_pos (sees_self d t)

theorem total_pos (t : Fin 2048) : 0 < total d s q k t := by
  refine Finset.sum_pos' (fun _ _ => mass_nonneg _) ⟨t, Finset.mem_univ t, ?_⟩
  rw [weight, score_self, mass_real]; exact Real.exp_pos _

/-- A row of scores against some keys, among them all in the window, has a largest score; shifted by it, the exponentials to
    base two collect what the weights do, but for a factor. -/
theorem row_collected {K : ℕ} (t : Fin 2048) (pos : Fin K → Fin 2048) (hpos : Function.Injective pos) (sc : Fin K → EReal)
    (hsc : ∀ i, sc i * (scale : EReal) = score d s q k t (pos i)) (hne : ∀ i, sc i ≠ ⊤) (hcov : ∀ t', Sees d t t' → ∃ i, pos i = t') :
    ∃ M : ℝ, Finset.fold max (⊥ : EReal) sc Finset.univ = (M : EReal) ∧ ∀ f : Fin 2048 → ℝ,
      (∑ i, Ideal.exp2 ((sc i - (M : EReal)) * ((scale * (Real.log 2)⁻¹ : ℝ) : EReal)) * ((f (pos i) : ℝ) : EReal))
        = ((Real.exp (-(M * scale)) * ∑ t', weight d s q k t t' * f t' : ℝ) : EReal) := by
  have hbot : ∃ i, sc i ≠ ⊥ := by
    obtain ⟨i, hi⟩ := hcov t (sees_self d t)
    refine ⟨i, fun h => ?_⟩
    have h1 := hsc i
    rw [hi, score_self, h, EReal.bot_mul_coe_of_pos scale_pos] at h1
    exact EReal.bot_ne_coe _ h1
  obtain ⟨M, hM⟩ := top_real sc hne hbot
  refine ⟨M, hM, fun f => ?_⟩
  rw [sum_shift sc hne M scale scale_pos (fun i => f (pos i))]
  congr 2
  rw [← sum_keys pos hpos (weight d s q k t) _ f]
  · exact Finset.sum_congr rfl fun i _ => by rw [weight, hsc]
  · intro t' h
    refine hcov t' ?_
    by_contra hn
    exact h (by rw [weight, score, if_neg hn, mass_bot])

/-- What a row holds: the largest score, the weighted sums, the total weight, shifted by the largest score. -/
def Row (t : Fin 2048) (m : EReal) (a : Fin 256 → EReal) : Prop :=
  ∃ M : ℝ, m = (M : EReal) ∧ ∀ j : Fin 256, a j = ((Real.exp (-(M * scale)) * (if h : j.val < 128 then collected d s q k v t ⟨j.val, h⟩ else total d s q k t) : ℝ) : EReal)

end

/-- The three windows together, gated: the column parts are queries, keys and values of dilations one, four, sixteen, and the gate. -/
def attended (s : ℝ) (f : Fin 10 → Fin 2048 → Fin 128 → ℝ) (t : Fin 2048) (e : Fin 128) : ℝ :=
  (collected 1 s (f 0) (f 1) (f 2) t e + collected 4 s (f 3) (f 4) (f 5) t e + collected 16 s (f 6) (f 7) (f 8) t e)
    / (total 1 s (f 0) (f 1) t + total 4 s (f 3) (f 4) t + total 16 s (f 6) (f 7) t) * silu (f 9 t e)

end Cert.Dilated
-- ==== Proof.DilatedRows.lean ====
/-
  What the five functions of the dilated attention kernel compute, entry by entry, and the scores of a query block as
  scores of a window.
-/
module

public import proofs.«01_k».proof.Proof.DilatedTasks
public import proofs.«01_k».proof.Proof.WindowSpec
public import Idealize.ShloMosaic.Lib.Pipeline.ValueKit
public import Idealize.ShloMosaic.Lib.Tactic.ValueTie

@[expose] public section
set_option maxRecDepth 16384

noncomputable section

namespace Cert.KernelIdeal.Value
open Cert.KernelIdeal Cert.KernelIdeal.Gen Cert.Dilated Idealize.ShloMosaic Idealize.ShloMosaic.TcCoe Idealize.SL.Sem

theorem named_exp2 : (Named.named (F := Ideal) κ "exp2_scale" (φ := .f32) 0x3E0293EE#32 : EReal) = ((scale * (Real.log 2)⁻¹ : ℝ) : EReal) := rfl
theorem named_scale : (Named.named (F := Ideal) κ "scale" (φ := .f32) 0x3DB504F3#32 : EReal) = (scale : EReal) := rfl
theorem named_log2e : (Named.named (F := Ideal) κ "log2e" (φ := .f32) 0x3FB8AA3B#32 : EReal) = (((Real.log 2)⁻¹ : ℝ) : EReal) := rfl
theorem named_mask : (Named.named (F := Ideal) κ "mask" (φ := .f32) 0xF149F2CA#32 : EReal) = ⊥ := rfl

/-- The bias at a distance of `step` dilations: a multiple of it in the window, minus infinity outside. -/
def stepBias (x : EReal) (step : ℤ) : EReal := if 0 ≤ step ∧ step ≤ 128 then x * ((step : ℝ) : EReal) else ⊥

theorem select_step (w : BitVec 32) (step : ℤ) (hw : w.toInt = step) (x : EReal) :
    Scalar.select (IntOp.andi (IntOp.cmpi .sge w 0#32) (IntOp.cmpi .sle w 128#32)) (x * (FloatOps.sitofp (F := Ideal) .f32 w : EReal)) ⊥ = stepBias x step := by
  have hs : (FloatOps.sitofp (F := Ideal) .f32 w : EReal) = ((w.toInt : ℝ) : EReal) := rfl
  have h : IntOp.andi (IntOp.cmpi .sge w 0#32) (IntOp.cmpi .sle w 128#32) = BitVec.ofBool (decide (0 ≤ step ∧ step ≤ 128)) := by
    have h0 : IntOp.cmpi .sge w 0#32 = BitVec.ofBool (decide (0 ≤ step)) := by rw [WordCmp.cmpi_sge_eq, hw]; rfl
    have h1 : IntOp.cmpi .sle w 128#32 = BitVec.ofBool (decide (step ≤ 128)) := by rw [WordCmp.cmpi_sle_eq, hw]; rfl
    rw [h0, h1]
    by_cases a : 0 ≤ step <;> by_cases b : step ≤ 128 <;> simp [a, b, IntOp.andi]
  rw [hs, h, hw, stepBias]
  by_cases a : 0 ≤ step ∧ step ≤ 128 <;> simp [a, Scalar.select]

theorem step_word (a b off : ℕ) (ha : a < 256) (hb : b < 256) (ho : off ≤ 128) :
    (IntOp.addi (IntOp.subi (BitVec.ofNat 32 a) (BitVec.ofNat 32 b)) (BitVec.ofNat 32 off)).toInt = (a : ℤ) - b + off := by
  have h : ∀ n : ℕ, n < 256 → (BitVec.ofNat 32 n).toInt = n := fun n hn => by
    rw [BitVec.toInt_eq_toNat_cond, BitVec.toNat_ofNat]; split_ifs <;> omega
  simp only [IntOp.addi, IntOp.subi, BitVec.toInt_add, BitVec.toInt_sub, h a ha, h b hb, h off (by omega), Int.bmod]
  norm_num
  omega

/-- The factor of a bias: minus the slope times the dilation, divided by the scale. -/
def tilt (s : EReal) (dilation : BitVec 32) : EReal := Ideal.div ((0 - s) * Ideal.ofBits .f32 dilation) (scale : EReal)

theorem bias128_at (s : Elt Ideal .f32) (dilation : BitVec 32) (y : S128x128.Idx) :
    bias128 (F := Ideal) s dilation y = stepBias (tilt s dilation) (((y 0).val : ℤ) - (y 1).val + ((0 : ℕ) : ℤ)) := by
  rw [← select_step _ _ (step_word (y 0).val (y 1).val 0 ((y 0).isLt.trans_le (by decide)) ((y 1).isLt.trans_le (by decide)) (by omega))]
  unfold bias128 tilt
  rw [← named_scale, ← named_mask]
  pointwise

theorem bias256_at (s : Elt Ideal .f32) (dilation : BitVec 32) (y : S128x256.Idx) :
    bias256 (F := Ideal) s dilation y = stepBias (tilt s dilation) (((y 0).val : ℤ) - (y 1).val + ((128 : ℕ) : ℤ)) := by
  rw [← select_step _ _ (step_word (y 0).val (y 1).val 128 ((y 0).isLt.trans_le (by decide)) ((y 1).isLt.trans_le (by decide)) (by omega))]
  unfold bias256 tilt
  rw [← named_scale, ← named_mask]
  pointwise

theorem score128_at (b : FVec Ideal S128x128 .f32) (q k : FVec Ideal S128x128 .bf16) (y : S128x128.Idx) :
    score128 b q k y = (∑ l : Fin 128, q (ix2 (y 0) l) * k (ix2 (y 1) l) : EReal) + b y := by
  unfold score128
  pointwise

theorem score256_at (b : FVec Ideal S128x256 .f32) (q : FVec Ideal S128x128 .bf16) (k : FVec Ideal S256x128 .bf16) (y : S128x256.Idx) :
    score256 b q k y = (∑ l : Fin 128, q (ix2 (y 0) l) * k (ix2 (y 1) l) : EReal) + b y := by
  unfold score256
  pointwise

theorem top128_at (d : FVec Ideal S128x128 .f32) (y : S128x1.Idx) :
    top128 d y = Finset.fold max (⊥ : EReal) (fun x : Fin 128 => d (ix2 (y 0) x)) Finset.univ := by
  rw [← bits_neg_inf]
  unfold top128
  pointwise

theorem top256_at (d : FVec Ideal S128x256 .f32) (y : S128x1.Idx) :
    top256 d y = Finset.fold max (⊥ : EReal) (fun x : Fin 256 => d (ix2 (y 0) x)) Finset.univ := by
  rw [← bits_neg_inf]
  unfold top256
  pointwise

theorem collect128_at (d : FVec Ideal S128x128 .f32) (v : FVec Ideal S128x128 .bf16) (y : S128x256.Idx) :
    collect128 d v y = (∑ x : Fin 128, Ideal.exp2 ((d (ix2 (y 0) x) - top128 d (ix2 (y 0) 0)) * ((scale * (Real.log 2)⁻¹ : ℝ) : EReal)) * (if h : (y 1).val < 128 then v (ix2 x ⟨(y 1).val, h⟩) else 1) : EReal) := by
  rw [← named_exp2]
  unfold collect128
  pointwise
  rfl

theorem collect256_at (d : FVec Ideal S128x256 .f32) (v : FVec Ideal S256x128 .bf16) (y : S128x256.Idx) :
    collect256 d v y = (∑ x : Fin 256, Ideal.exp2 ((d (ix2 (y 0) x) - top256 d (ix2 (y 0) 0)) * ((scale * (Real.log 2)⁻¹ : ℝ) : EReal)) * (if h : (y 1).val < 128 then v (ix2 x ⟨(y 1).val, h⟩) else 1) : EReal) := by
  rw [← named_exp2]
  unfold collect256
  pointwise
  rfl

theorem outOf_at (a : FVec Ideal S128x256 .f32) (y : S128x128.Idx) :
    outOf a y = Ideal.div (a (ix2 (y 0) ⟨(y 1).val, (y 1).isLt.trans (by decide)⟩)) (a (ix2 (y 0) ⟨128 + (y 1).val, Nat.add_lt_add_left (y 1).isLt 128⟩)) := by
  unfold outOf sums weights
  pointwise

theorem lseOf_at (m : FVec Ideal S128x1 .f32) (a : FVec Ideal S128x256 .f32) (y : S128x128.Idx) :
    lseOf m a y = m (ix2 (y 0) 0) * ((scale * (Real.log 2)⁻¹ : ℝ) : EReal) + Ideal.log (a (ix2 (y 0) ⟨128 + (y 1).val, Nat.add_lt_add_left (y 1).isLt 128⟩)) * (((Real.log 2)⁻¹ : ℝ) : EReal) := by
  rw [← named_exp2, ← named_log2e]
  unfold lseOf tops weights
  pointwise

theorem combine_at (m : FVec Ideal S128x1 .f32) (a : FVec Ideal S128x256 .f32) (l1 l2 o1 o2 : Vec Ideal S128x128 .f32) (z : Vec Ideal S1x128x128 .bf16) (y : S1x128x128.Idx) :
    combine m a l1 l2 o1 o2 z y
      = (let s0 : EReal := m (ix2 (y 1) 0) * ((scale * (Real.log 2)⁻¹ : ℝ) : EReal)
         let x1 : EReal := l1 (ix2 (y 1) (y 2))
         let x2 : EReal := l2 (ix2 (y 1) (y 2))
         let mx : EReal := max (max s0 x1) x2
         Ideal.div
          (Ideal.exp2 (s0 - mx) * a (ix2 (y 1) ⟨(y 2).val, (y 2).isLt.trans (by decide)⟩) + Ideal.exp2 (x1 - mx) * o1 (ix2 (y 1) (y 2)) + Ideal.exp2 (x2 - mx) * o2 (ix2 (y 1) (y 2)))
          (Ideal.exp2 (s0 - mx) * a (ix2 (y 1) ⟨128 + (y 2).val, Nat.add_lt_add_left (y 2).isLt 128⟩) + Ideal.exp2 (x1 - mx) + Ideal.exp2 (x2 - mx))
          * Ideal.div (z y) (1 + Ideal.exp (0 - z y))) := by
  rw [← named_exp2]
  unfold combine tops sums weights
  pointwise
  rfl

end Cert.KernelIdeal.Value
-- ==== Proof.WindowRows.lean ====
/-
  A block of scores collects a window.

  Row i of a block holds the query at position d (base + off + i) + r, key j the one at d (base + j) + r. The distance is d times
  i + off - j, so the bias the kernel computes on i and j masks exactly the keys outside of the window, and no key of the window
  is missing from the block.
-/
module

public import proofs.«01_k».proof.Proof.DilatedRows

@[expose] public section
set_option maxRecDepth 16384

noncomputable section

namespace Cert.KernelIdeal.Value
open Cert.KernelIdeal Cert.KernelIdeal.Gen Cert.Dilated Idealize.ShloMosaic Idealize.ShloMosaic.TcCoe Idealize.SL.Sem

theorem bits_one : Ideal.ofBits .f32 0x3F800000#32 = (((1 : ℕ) : ℝ) : EReal) := by
  simp [Ideal.ofBits, Ideal.ieee, -EReal.coe_mul]; norm_num
theorem bits_four : Ideal.ofBits .f32 0x40800000#32 = (((4 : ℕ) : ℝ) : EReal) := by
  simp [Ideal.ofBits, Ideal.ieee, -EReal.coe_mul]; norm_num
theorem bits_sixteen : Ideal.ofBits .f32 0x41800000#32 = (((16 : ℕ) : ℝ) : EReal) := by
  simp [Ideal.ofBits, Ideal.ieee, -EReal.coe_mul]; norm_num

theorem tilt_real (s : ℝ) (w : BitVec 32) (d : ℕ) (hw : Ideal.ofBits .f32 w = ((d : ℝ) : EReal)) :
    tilt (s : EReal) w = ((-(s * d) / scale : ℝ) : EReal) := by
  have h : (0 : EReal) - (s : EReal) = ((-s : ℝ) : EReal) := by rw [zero_sub, EReal.coe_neg]
  rw [tilt, hw, h, ← EReal.coe_mul, div_real _ scale_pos.ne']
  congr 2; ring

theorem sees_step (d : ℕ) (hd : 0 < d) (t t' : Fin 2048) (step : ℤ) (h : (t.val : ℤ) - t'.val = d * step) :
    Sees d t t' ↔ 0 ≤ step ∧ step ≤ 128 := by
  have hd' : (0 : ℤ) < d := by exact_mod_cast hd
  constructor
  · rintro ⟨h1, h2, -⟩
    constructor
    · by_contra hn
      have : (d : ℤ) * step < 0 := mul_neg_of_pos_of_neg hd' (by omega)
      omega
    · by_contra hn
      have : (d : ℤ) * 129 ≤ d * step := mul_le_mul_of_nonneg_left (by omega) hd'.le
      omega
  · rintro ⟨h1, h2⟩
    have h3 : 0 ≤ (d : ℤ) * step := mul_nonneg hd'.le h1
    have h4 : (d : ℤ) * step ≤ d * 128 := mul_le_mul_of_nonneg_left h2 hd'.le
    refine ⟨by omega, by omega, ?_⟩
    refine Int.natCast_dvd_natCast.mp ⟨step, ?_⟩
    omega

theorem score_step (d : ℕ) (hd : 0 < d) (s : ℝ) (q k : Fin 2048 → Fin 128 → ℝ) (t t' : Fin 2048) (step : ℤ) (h : (t.val : ℤ) - t'.val = d * step) :
    ((∑ l : Fin 128, (q t l : EReal) * (k t' l : EReal)) + stepBias ((-(s * d) / scale : ℝ) : EReal) step) * (scale : EReal) = score d s q k t t' := by
  have hsum : (∑ l : Fin 128, (q t l : EReal) * (k t' l : EReal)) = ((∑ l, q t l * k t' l : ℝ) : EReal) := by
    rw [coe_sum]; exact Finset.sum_congr (M := EReal) rfl fun l _ => (EReal.coe_mul _ _).symm
  rw [hsum, score, stepBias]
  by_cases hw : 0 ≤ step ∧ step ≤ 128
  · rw [if_pos hw, if_pos ((sees_step d hd t t' step h).mpr hw), ← EReal.coe_mul, ← EReal.coe_add, ← EReal.coe_mul, logit]
    have hr : (t.val : ℝ) - (t'.val : ℝ) = d * step := by exact_mod_cast congrArg (fun z : ℤ => (z : ℝ)) h
    rw [hr]
    congr 1
    field_simp [scale_pos.ne']
    ring
  · rw [if_neg hw, if_neg (mt (sees_step d hd t t' step h).mp hw), EReal.add_bot, EReal.bot_mul_coe_of_pos scale_pos]

theorem step_ne_top (d : ℕ) (s : ℝ) (q k : Fin 2048 → Fin 128 → ℝ) (t t' : Fin 2048) (x : EReal) (h : x * (scale : EReal) = score d s q k t t') : x ≠ ⊤ := by
  rintro rfl
  rw [EReal.top_mul_coe_of_pos scale_pos] at h
  exact score_ne_top d s q k t t' h.symm

theorem pos_lt (d base K r : ℕ) (hr : r < d) (h : d * (base + K) ≤ 2048) (j : ℕ) (hj : j < K) : d * (base + j) + r < 2048 := by
  have : d * (base + j) + d ≤ d * (base + K) := by rw [← Nat.mul_succ]; exact Nat.mul_le_mul_left d (by omega)
  omega

/-- Position of key j of a block. -/
def keyPos (d base K r : ℕ) (hr : r < d) (h : d * (base + K) ≤ 2048) (j : Fin K) : Fin 2048 := ⟨d * (base + j.val) + r, pos_lt d base K r hr h j.val j.isLt⟩

theorem keyPos_inj (d base K r : ℕ) (hr : r < d) (h : d * (base + K) ≤ 2048) : Function.Injective (keyPos d base K r hr h) := by
  intro a b hab
  have h1 : d * (base + a.val) + r = d * (base + b.val) + r := congrArg Fin.val hab
  have h2 : d * (base + a.val) = d * (base + b.val) := by omega
  have := Nat.eq_of_mul_eq_mul_left (by omega) h2
  exact Fin.ext (by omega)

/-- Every position the query sees is a key of the block. -/
theorem keys_cover (d base K off r : ℕ) (hr : r < d) (h : d * (base + K) ≤ 2048) (hK : K = 128 + off) (hoff : off = 128 ∨ off = 0 ∧ base = 0)
    (i : Fin K) (hi : off ≤ i.val) (t' : Fin 2048) (hs : Sees d (keyPos d base K r hr h i) t') : ∃ j, keyPos d base K r hr h j = t' := by
  obtain ⟨h1, h2, c, hc⟩ := hs
  have hd : 0 < d := by omega
  have hv : (keyPos d base K r hr h i).val = d * (base + i.val) + r := rfl
  rw [hv] at h1 h2 hc
  have hc' : c ≤ 128 := by
    by_contra hn
    have : d * 129 ≤ d * c := Nat.mul_le_mul_left d (by omega)
    omega
  have hci : c ≤ base + i.val := by
    by_contra hn
    have h3 : d * (base + i.val + 1) ≤ d * c := Nat.mul_le_mul_left d (by omega)
    rw [Nat.mul_succ] at h3
    omega
  have hsub : d * (base + i.val) = d * (base + i.val - c) + d * c := by rw [← Nat.mul_add]; congr 1; omega
  refine ⟨⟨i.val - c, by omega⟩, Fin.ext ?_⟩
  show d * (base + (i.val - c)) + r = t'.val
  have : base + (i.val - c) = base + i.val - c := by omega
  rw [this]; omega

section
variable (d base r : ℕ) (hr : r < d) (s : ℝ) (w : BitVec 32) (hw : Ideal.ofBits .f32 w = ((d : ℝ) : EReal)) (q k v : Fin 2048 → Fin 128 → ℝ)

include hw in
/-- 128 queries against their own 128 keys. -/
theorem row128 (h : d * (0 + 128) ≤ 2048) (Q KK V : FVec Ideal S128x128 .bf16)
    (hQ : ∀ i l, Q (ix2 i l) = ((q (keyPos d 0 128 r hr h i) l : ℝ) : EReal)) (hK : ∀ i l, KK (ix2 i l) = ((k (keyPos d 0 128 r hr h i) l : ℝ) : EReal))
    (hV : ∀ i l, V (ix2 i l) = ((v (keyPos d 0 128 r hr h i) l : ℝ) : EReal)) (i : Fin 128) :
    Row d s q k v (keyPos d 0 128 r hr h i) (top128 (score128 (bias128 (F := Ideal) (s : EReal) w) Q KK) (ix2 i 0))
      (fun j => collect128 (score128 (bias128 (F := Ideal) (s : EReal) w) Q KK) V (ix2 i j)) := by
  have hd : 0 < d := by omega
  set D := score128 (bias128 (F := Ideal) (s : EReal) w) Q KK with hD
  have hsc : ∀ j : Fin 128, (D (ix2 i j) : EReal) * (scale : EReal) = score d s q k (keyPos d 0 128 r hr h i) (keyPos d 0 128 r hr h j) := fun j => by
    rw [← score_step d hd s q k _ _ ((i.val : ℤ) - j.val + ((0 : ℕ) : ℤ)) (by simp only [keyPos]; push_cast; ring), hD, score128_at, bias128_at, tilt_real s w d hw]
    congr 2
    exact Finset.sum_congr (M := EReal) rfl fun l _ => by rw [← hQ, ← hK]; rfl
  obtain ⟨M, hM, hc⟩ := row_collected d s q k (keyPos d 0 128 r hr h i) (keyPos d 0 128 r hr h) (keyPos_inj d 0 128 r hr h) (fun j => D (ix2 i j)) hsc
    (fun j => step_ne_top d s q k _ _ _ (hsc j)) (fun t' => keys_cover d 0 128 0 r hr h rfl (.inr ⟨rfl, rfl⟩) i (Nat.zero_le _) t')
  have htop : top128 D (ix2 i 0) = (M : EReal) := by rw [top128_at]; exact hM
  refine ⟨M, htop, fun j => ?_⟩
  refine (collect128_at D V (ix2 i j)).trans ?_
  by_cases hj : j.val < 128
  · rw [dif_pos hj, collected, ← hc fun t' => v t' ⟨j.val, hj⟩]
    refine Finset.sum_congr (M := EReal) rfl fun x _ => ?_
    have : ((ix2 i j : S128x256.Idx) 1).val < 128 := hj
    rw [dif_pos this, hV, ← htop]; rfl
  · have h1 := hc fun _ => 1
    rw [dif_neg hj, total]
    simp only [mul_one] at h1
    rw [← h1]
    refine Finset.sum_congr (M := EReal) rfl fun x _ => ?_
    have : ¬ ((ix2 i j : S128x256.Idx) 1).val < 128 := hj
    rw [dif_neg this, ← htop]; rfl

include hw in
/-- 128 queries against the 128 keys before them and their own. -/
theorem row256 (h : d * (base + 256) ≤ 2048) (Q : FVec Ideal S128x128 .bf16) (KK V : FVec Ideal S256x128 .bf16)
    (hQ : ∀ (i : Fin 128) l, Q (ix2 i l) = ((q (keyPos d base 256 r hr h ⟨128 + i.val, by omega⟩) l : ℝ) : EReal)) (hK : ∀ i l, KK (ix2 i l) = ((k (keyPos d base 256 r hr h i) l : ℝ) : EReal))
    (hV : ∀ i l, V (ix2 i l) = ((v (keyPos d base 256 r hr h i) l : ℝ) : EReal)) (i : Fin 128) :
    Row d s q k v (keyPos d base 256 r hr h ⟨128 + i.val, by omega⟩) (top256 (score256 (bias256 (F := Ideal) (s : EReal) w) Q KK) (ix2 i 0))
      (fun j => collect256 (score256 (bias256 (F := Ideal) (s : EReal) w) Q KK) V (ix2 i j)) := by
  have hd : 0 < d := by omega
  set D := score256 (bias256 (F := Ideal) (s : EReal) w) Q KK with hD
  have hsc : ∀ j : Fin 256, (D (ix2 i j) : EReal) * (scale : EReal) = score d s q k (keyPos d base 256 r hr h ⟨128 + i.val, by omega⟩) (keyPos d base 256 r hr h j) := fun j => by
    rw [← score_step d hd s q k _ _ ((i.val : ℤ) - j.val + ((128 : ℕ) : ℤ)) (by simp only [keyPos]; push_cast; ring), hD, score256_at, bias256_at, tilt_real s w d hw]
    congr 2
    exact Finset.sum_congr (M := EReal) rfl fun l _ => by rw [← hQ, ← hK]; rfl
  obtain ⟨M, hM, hc⟩ := row_collected d s q k (keyPos d base 256 r hr h ⟨128 + i.val, by omega⟩) (keyPos d base 256 r hr h) (keyPos_inj d base 256 r hr h) (fun j => D (ix2 i j)) hsc
    (fun j => step_ne_top d s q k _ _ _ (hsc j)) (fun t' => keys_cover d base 256 128 r hr h rfl (.inl rfl) ⟨128 + i.val, by omega⟩ (Nat.le_add_right _ _) t')
  have htop : top256 D (ix2 i 0) = (M : EReal) := by rw [top256_at]; exact hM
  refine ⟨M, htop, fun j => ?_⟩
  refine (collect256_at D V (ix2 i j)).trans ?_
  by_cases hj : j.val < 128
  · rw [dif_pos hj, collected, ← hc fun t' => v t' ⟨j.val, hj⟩]
    refine Finset.sum_congr (M := EReal) rfl fun x _ => ?_
    have : ((ix2 i j : S128x256.Idx) 1).val < 128 := hj
    rw [dif_pos this, hV, ← htop]; rfl
  · have h1 := hc fun _ => 1
    rw [dif_neg hj, total]
    simp only [mul_one] at h1
    rw [← h1]
    refine Finset.sum_congr (M := EReal) rfl fun x _ => ?_
    have : ¬ ((ix2 i j : S128x256.Idx) 1).val < 128 := hj
    rw [dif_neg this, ← htop]; rfl

end

end Cert.KernelIdeal.Value
-- ==== Proof.DilatedBlocks.lean ====
/-
  The tasks of the dilated attention kernel collect their windows.

  A block of a column part has its 2048 rows in four tiles of 512; in a tile the rows of one residue of the dilation lie
  together. A task's queries and keys are then the positions of one residue, one dilation apart.
-/
module

public import proofs.«01_k».proof.Proof.WindowRows

@[expose] public section
set_option maxRecDepth 16384

noncomputable section

namespace Cert.KernelIdeal.Value
open Cert.KernelIdeal Cert.KernelIdeal.Gen Cert.Dilated Idealize.ShloMosaic Idealize.ShloMosaic.TcCoe Idealize.SL.Sem

/-- A block of a column part holds f, the rows of a tile ordered by residue. -/
def Held (d : ℕ) (x : Vec Ideal S1x2048x128 .bf16) (f : Fin 2048 → Fin 128 → ℝ) : Prop :=
  ∀ (T r u : ℕ) (a t : Fin 2048) (l : Fin 128), r < d → u * d < 512 → a.val = T * 512 + r * (512 / d) + u → t.val = T * 512 + u * d + r →
    (x (ix3 0 a l) : EReal) = (f t l : EReal)

section
variable (a : Block) (ha : a.IsWhole) (x : Vec Ideal S1x2048x128 .bf16)

theorem rows_at (s : ℕ) (hs : s + 128 ≤ 2048) (y : S1x128x128.Idx) :
    rows a ha x s hs y = x (ix3 0 ⟨s + (y 1).val, by have := (y 1).isLt; change _ < 128 at this; omega⟩ (y 2)) := by
  unfold rows
  rw [View.readAt_apply, ha.read_unread]
  congr 1
  funext k
  fin_cases k <;> apply Fin.ext <;> simp [LoadRect.idx_apply]

theorem rows256_at (s : ℕ) (hs : s + 256 ≤ 2048) (y : S1x256x128.Idx) :
    rows256 a ha x s hs y = x (ix3 0 ⟨s + (y 1).val, by have := (y 1).isLt; change _ < 256 at this; omega⟩ (y 2)) := by
  unfold rows256
  rw [View.readAt_apply, ha.read_unread]
  congr 1
  funext k
  fin_cases k <;> apply Fin.ext <;> simp [LoadRect.idx_apply]

theorem rows32_at (s : ℕ) (hs : s + 32 ≤ 2048) (y : S1x32x128.Idx) :
    rows32 a ha x s hs y = x (ix3 0 ⟨s + (y 1).val, by have := (y 1).isLt; change _ < 32 at this; omega⟩ (y 2)) := by
  unfold rows32
  rw [View.readAt_apply, ha.read_unread]
  congr 1
  funext k
  fin_cases k <;> apply Fin.ext <;> simp [LoadRect.idx_apply]

theorem one_at (s : ℕ) (hs : s + 128 ≤ 2048) (i l : Fin 128) : one a ha x s hs (ix2 i l) = x (ix3 0 ⟨s + i.val, by omega⟩ l) := by
  have h := rows_at a ha x s hs (ix3 0 i l)
  refine Eq.trans ?_ h
  unfold one
  generalize rows a ha x s hs = R
  pointwise

theorem both_at (s : ℕ) (hs : s + 256 ≤ 2048) (i : Fin 256) (l : Fin 128) :
    shapeCast S256x128 (rows256 a ha x s hs) shapeCasts_S1x256x128_S256x128 (ix2 i l) = x (ix3 0 ⟨s + i.val, by omega⟩ l) := by
  have h := rows256_at a ha x s hs (ix3 0 i l)
  refine Eq.trans ?_ h
  generalize rows256 a ha x s hs = R
  pointwise

theorem two_at (s s' : ℕ) (hs : s + 128 ≤ 2048) (hs' : s' + 128 ≤ 2048) (i : Fin 256) (l : Fin 128) :
    two a ha x s s' hs hs' (ix2 i l) = if h : i.val < 128 then x (ix3 0 ⟨s + i.val, by omega⟩ l) else x (ix3 0 ⟨s' + (i.val - 128), by omega⟩ l) := by
  have h1 := one_at a ha x s hs
  have h2 := one_at a ha x s' hs'
  unfold two
  revert h1 h2
  generalize one a ha x s hs = R
  generalize one a ha x s' hs' = R'
  intro h1 h2
  split_ifs with h
  · rw [← h1 ⟨i.val, h⟩ l]
    pointwise
    rw [dif_pos h]
  · rw [← h2 ⟨i.val - 128, by omega⟩ l]
    pointwise
    rw [dif_neg h]

theorem four_at (s : ℕ) (hs : s + 32 ≤ 512) (i l : Fin 128) :
    four a ha x s hs (ix2 i l) = x (ix3 0 ⟨i.val / 32 * 512 + s + i.val % 32, by omega⟩ l) := by
  unfold four
  have h0 := rows32_at a ha x (0 + s) (by omega)
  have h1 := rows32_at a ha x (512 + s) (by omega)
  have h2 := rows32_at a ha x (1024 + s) (by omega)
  have h3 := rows32_at a ha x (1536 + s) (by omega)
  revert h0 h1 h2 h3
  generalize rows32 a ha x (0 + s) _ = R0
  generalize rows32 a ha x (512 + s) _ = R1
  generalize rows32 a ha x (1024 + s) _ = R2
  generalize rows32 a ha x (1536 + s) _ = R3
  intro h0 h1 h2 h3
  pointwise
  by_cases c0 : i.val < 32
  · rw [dif_pos c0, h0]; exact congrArg (fun r => x (ix3 0 r l)) (Fin.ext (by show 0 + s + i.val = i.val / 32 * 512 + s + i.val % 32; omega))
  rw [dif_neg c0]
  by_cases c1 : i.val - 32 < 32
  · rw [dif_pos c1, h1]; exact congrArg (fun r => x (ix3 0 r l)) (Fin.ext (by show 512 + s + (i.val - 32) = i.val / 32 * 512 + s + i.val % 32; omega))
  rw [dif_neg c1]
  by_cases c2 : i.val - 32 - 32 < 32
  · rw [dif_pos c2, h2]; exact congrArg (fun r => x (ix3 0 r l)) (Fin.ext (by show 1024 + s + (i.val - 32 - 32) = i.val / 32 * 512 + s + i.val % 32; omega))
  rw [dif_neg c2, h3]
  exact congrArg (fun r => x (ix3 0 r l)) (Fin.ext (by show 1536 + s + (i.val - 32 - 32 - 32) = i.val / 32 * 512 + s + i.val % 32; omega))
end

theorem slope_at (c : Dev nD) (i : grid0.Coords) (arg2 : Memref sig .tc .smem S16 .f32) (harg2 : arg2.IsWhole) (x0 : Vec Ideal S16 .f32) :
    slope c i arg2 harg2 x0 = x0 (ix1 (i 1)) := by
  unfold slope kernelRun0_A.sl.r
  rw [View.readAt_apply, harg2.read_unread]
  congr 1
  funext k
  fin_cases k
  apply Fin.ext
  have : (i 1).val < 16 := (i 1).isLt
  simp [LoadRect.idx_apply, k0_off1, Scalar.indexCast]
  omega

section
variable (c : Dev nD) (i : grid0.Coords) (arg2 : Memref sig .tc .smem S16 .f32) (harg2 : arg2.IsWhole)
  (a b e : Block) (ha : a.IsWhole) (hb : b.IsWhole) (he : e.IsWhole) (x0 : Vec Ideal S16 .f32) (x1 x2 x3 : Vec Ideal S1x2048x128 .bf16)
  (s : ℝ) (hs : slope (F := Ideal) c i arg2 harg2 x0 = (s : EReal)) (q k v : Fin 2048 → Fin 128 → ℝ)

include hs

theorem task0_row (hq : Held 1 x1 q) (hk : Held 1 x2 k) (hv : Held 1 x3 v) (n : Fin 16) (j : Fin 128) (t : Fin 2048) (ht : t.val = n.val * 128 + j.val) :
    Row 1 s q k v t ((task0 c i arg2 harg2 a ha b hb e he x0 x1 x2 x3 n).1 (ix2 j 0)) (fun l => (task0 c i arg2 harg2 a ha b hb e he x0 x1 x2 x3 n).2 (ix2 j l)) := by
  match n with
  | ⟨0, h0⟩ =>
    have key : keyPos 1 0 128 0 (by omega) (by omega) j = t := Fin.ext (by simp only [keyPos]; simp only at ht; omega)
    rw [← key]
    simp only [task0, hs]
    refine row128 1 0 (by omega) s _ bits_one q k v (by omega) _ _ _ (fun i l => ?_) (fun i l => ?_) (fun i l => ?_) j
    · exact (one_at ..).trans (hq (i.val / 512) 0 (i.val % 512) _ _ l (by omega) (by omega) (by simp only <;> omega) (by simp only [keyPos] <;> omega))
    · exact (one_at ..).trans (hk (i.val / 512) 0 (i.val % 512) _ _ l (by omega) (by omega) (by simp only <;> omega) (by simp only [keyPos] <;> omega))
    · exact (one_at ..).trans (hv (i.val / 512) 0 (i.val % 512) _ _ l (by omega) (by omega) (by simp only <;> omega) (by simp only [keyPos] <;> omega))
  | ⟨n + 1, hn⟩ =>
    have key : keyPos 1 (n * 128) 256 0 (by omega) (by omega) ⟨128 + j.val, by omega⟩ = t := Fin.ext (by simp only [keyPos]; simp only at ht; omega)
    rw [← key]
    simp only [task0, hs]
    refine row256 1 (n * 128) 0 (by omega) s _ bits_one q k v (by omega) _ _ _ (fun i l => ?_) (fun i l => ?_) (fun i l => ?_) j
    · exact (one_at ..).trans (hq (((n + 1) * 128 + i.val) / 512) 0 (((n + 1) * 128 + i.val) % 512) _ _ l (by omega) (by omega) (by simp only <;> omega) (by simp only [keyPos] <;> omega))
    · exact (both_at ..).trans (hk ((n * 128 + i.val) / 512) 0 ((n * 128 + i.val) % 512) _ _ l (by omega) (by omega) (by simp only <;> omega) (by simp only [keyPos] <;> omega))
    · exact (both_at ..).trans (hv ((n * 128 + i.val) / 512) 0 ((n * 128 + i.val) % 512) _ _ l (by omega) (by omega) (by simp only <;> omega) (by simp only [keyPos] <;> omega))

set_option maxHeartbeats 1000000 in
theorem task1_row (hq : Held 4 x1 q) (hk : Held 4 x2 k) (hv : Held 4 x3 v) (r n : Fin 4) (j : Fin 128) (t : Fin 2048) (ht : t.val = n.val * 512 + r.val + 4 * j.val) :
    Row 4 s q k v t ((task1 c i arg2 harg2 a ha b hb e he x0 x1 x2 x3 r n).1 (ix2 j 0)) (fun l => (task1 c i arg2 harg2 a ha b hb e he x0 x1 x2 x3 r n).2 (ix2 j l)) := by
  match n with
  | ⟨0, h0⟩ =>
    have key : keyPos 4 0 128 r.val r.isLt (by omega) j = t := Fin.ext (by simp only [keyPos]; simp only at ht; omega)
    rw [← key]
    simp only [task1, hs]
    refine row128 4 r.val r.isLt s _ bits_four q k v (by omega) _ _ _ (fun i l => ?_) (fun i l => ?_) (fun i l => ?_) j
    · exact (one_at ..).trans (hq 0 r.val i.val _ _ l r.isLt (by omega) (by simp only <;> omega) (by simp only [keyPos] <;> omega))
    · exact (one_at ..).trans (hk 0 r.val i.val _ _ l r.isLt (by omega) (by simp only <;> omega) (by simp only [keyPos] <;> omega))
    · exact (one_at ..).trans (hv 0 r.val i.val _ _ l r.isLt (by omega) (by simp only <;> omega) (by simp only [keyPos] <;> omega))
  | ⟨n + 1, hn⟩ =>
    have key : keyPos 4 (n * 128) 256 r.val r.isLt (by omega) ⟨128 + j.val, by omega⟩ = t := Fin.ext (by simp only [keyPos]; simp only at ht; omega)
    rw [← key]
    simp only [task1, hs]
    have two_row : ∀ (m : Block) (hm : m.IsWhole) (x : Vec Ideal S1x2048x128 .bf16) (f : Fin 2048 → Fin 128 → ℝ), Held 4 x f → ∀ (i : Fin 256) (l : Fin 128),
        (two m hm x (n * 512 + r.val * 128) ((n + 1) * 512 + r.val * 128) (by omega) (by omega) (ix2 i l) : EReal) = ((f (keyPos 4 (n * 128) 256 r.val r.isLt (by omega) i) l : ℝ) : EReal) := by
      intro m hm x f hx i l
      refine (two_at ..).trans ?_
      split_ifs with h
      · exact hx n r.val i.val _ _ l r.isLt (by omega) (by simp only <;> omega) (by simp only [keyPos] <;> omega)
      · exact hx (n + 1) r.val (i.val - 128) _ _ l r.isLt (by omega) (by simp only <;> omega) (by simp only [keyPos] <;> omega)
    refine row256 4 (n * 128) r.val r.isLt s _ bits_four q k v (by omega) _ _ _ (fun i l => ?_) (two_row b hb x2 k hk) (two_row e he x3 v hv) j
    exact (one_at ..).trans (hq (n + 1) r.val i.val _ _ l r.isLt (by omega) (by simp only <;> omega) (by simp only [keyPos] <;> omega))

theorem task2_row (hq : Held 16 x1 q) (hk : Held 16 x2 k) (hv : Held 16 x3 v) (g h : Fin 4) (j : Fin 128) (t : Fin 2048) (ht : t.val = g.val + 4 * (h.val + 4 * j.val)) :
    Row 16 s q k v t ((task2 c i arg2 harg2 a ha b hb e he x0 x1 x2 x3 g h).1 (ix2 j 0)) (fun l => (task2 c i arg2 harg2 a ha b hb e he x0 x1 x2 x3 g h).2 (ix2 j l)) := by
  have key : keyPos 16 0 128 (4 * h.val + g.val) (by omega) (by omega) j = t := Fin.ext (by simp only [keyPos] <;> omega)
  rw [← key]
  simp only [task2, hs]
  have four_row : ∀ (m : Block) (hm : m.IsWhole) (x : Vec Ideal S1x2048x128 .bf16) (f : Fin 2048 → Fin 128 → ℝ), Held 16 x f → ∀ (i l : Fin 128),
      (four m hm x ((4 * h.val + g.val) * 32) (by omega) (ix2 i l) : EReal) = ((f (keyPos 16 0 128 (4 * h.val + g.val) (by omega) (by omega) i) l : ℝ) : EReal) := by
    intro m hm x f hx i l
    exact (four_at ..).trans (hx (i.val / 32) (4 * h.val + g.val) (i.val % 32) _ _ l (by omega) (by omega) (by simp only <;> omega) (by simp only [keyPos] <;> omega))
  exact row128 16 (4 * h.val + g.val) (by omega) s _ bits_sixteen q k v (by omega) _ _ _ (four_row a ha x1 q hq) (four_row b hb x2 k hk) (four_row e he x3 v hv) j

end

end Cert.KernelIdeal.Value
-- ==== Proof.DilatedScratch.lean ====
/-
  What the scratch arrays and the output block of the dilated attention kernel hold.

  Dilations four and sixteen are kept in scratch arrays, in the order of positions: the normalised outputs and the base two
  logarithms of the total weights. Dilation sixteen gets there in two strided steps. The last stores combine them with
  dilation one.
-/
module

public import proofs.«01_k».proof.Proof.DilatedBlocks

@[expose] public section
set_option maxRecDepth 16384

noncomputable section

namespace Cert.KernelIdeal.Value
open Cert.KernelIdeal Cert.KernelIdeal.Gen Cert.Dilated Idealize.ShloMosaic Idealize.ShloMosaic.TcCoe Idealize.SL.Sem

section
variable (d : ℕ) (s : ℝ) (q k v : Fin 2048 → Fin 128 → ℝ) (t : Fin 2048) (m : FVec Ideal S128x1 .f32) (a : FVec Ideal S128x256 .f32)

theorem row_low (j : Fin 128) {M : ℝ} (hr : ∀ l : Fin 256, (a (ix2 j l) : EReal) = ((Real.exp (-(M * scale)) * (if h : l.val < 128 then collected d s q k v t ⟨l.val, h⟩ else total d s q k t) : ℝ) : EReal)) (e : Fin 128) (h : e.val < 256) :
    (a (ix2 j ⟨e.val, h⟩) : EReal) = ((Real.exp (-(M * scale)) * collected d s q k v t e : ℝ) : EReal) := by
  rw [hr, dif_pos (show (⟨e.val, h⟩ : Fin 256).val < 128 from e.isLt)]

theorem row_high (j : Fin 128) {M : ℝ} (hr : ∀ l : Fin 256, (a (ix2 j l) : EReal) = ((Real.exp (-(M * scale)) * (if h : l.val < 128 then collected d s q k v t ⟨l.val, h⟩ else total d s q k t) : ℝ) : EReal)) (e : Fin 128) (h : 128 + e.val < 256) :
    (a (ix2 j ⟨128 + e.val, h⟩) : EReal) = ((Real.exp (-(M * scale)) * total d s q k t : ℝ) : EReal) := by
  rw [hr, dif_neg (show ¬ (⟨128 + e.val, h⟩ : Fin 256).val < 128 by simp)]

theorem outOf_row (y : S128x128.Idx) (hr : Row d s q k v t (m (ix2 (y 0) 0)) (fun l => a (ix2 (y 0) l))) :
    (outOf a y : EReal) = ((collected d s q k v t (y 1) / total d s q k t : ℝ) : EReal) := by
  obtain ⟨M, -, hr⟩ := hr
  exact (outOf_at a y).trans ((congrArg₂ Ideal.div (row_low d s q k v t a (y 0) hr (y 1) _) (row_high d s q k v t a (y 0) hr (y 1) _)).trans (out_shift M scale _ (total_pos d s q k t)))

theorem lseOf_row (y : S128x128.Idx) (hr : Row d s q k v t (m (ix2 (y 0) 0)) (fun l => a (ix2 (y 0) l))) :
    (lseOf m a y : EReal) = ((Real.log (total d s q k t) * (Real.log 2)⁻¹ : ℝ) : EReal) := by
  obtain ⟨M, hm, hr⟩ := hr
  have h1 : (m (ix2 (y 0) 0) : EReal) * ((scale * (Real.log 2)⁻¹ : ℝ) : EReal) = (M : EReal) * ((scale * (Real.log 2)⁻¹ : ℝ) : EReal) := congrArg (· * _) hm
  exact (lseOf_at m a y).trans ((congrArg₂ (fun (x z : EReal) => x + Ideal.log z * (((Real.log 2)⁻¹ : ℝ) : EReal)) h1 (row_high d s q k v t a (y 0) hr (y 1) _)).trans (lse_shift M scale (total_pos d s q k t)))
end

/-- A scratch array of normalised outputs, and one of logarithms of total weights; row a holds position p a. -/
def outVec (d : ℕ) (s : ℝ) (q k v : Fin 2048 → Fin 128 → ℝ) (p : Fin 2048 → Fin 2048) : Vec Ideal S2048x128 .f32 :=
  fun y => ((collected d s q k v (p (y 0)) (y 1) / total d s q k (p (y 0)) : ℝ) : EReal)
def lseVec (d : ℕ) (s : ℝ) (q k : Fin 2048 → Fin 128 → ℝ) (p : Fin 2048 → Fin 2048) : Vec Ideal S2048x128 .f32 :=
  fun y => ((Real.log (total d s q k (p (y 0))) * (Real.log 2)⁻¹ : ℝ) : EReal)

theorem mem_all1 : ∀ p : Fin 4 × Fin 4, p ∈ all1 := by decide
theorem mem_all0 : ∀ n : Fin 16, n ∈ all0 := by decide

/-- Where a row of the first step of dilation sixteen belongs. -/
def home (a : Fin 2048) : Fin 2048 := ⟨a.val / 512 + 4 * (a.val % 512), by omega⟩

section
variable (c : Dev nD) (i : grid0.Coords) (arg2 : Memref sig .tc .smem S16 .f32) (harg2 : arg2.IsWhole)
  (a b e : Block) (ha : a.IsWhole) (hb : b.IsWhole) (he : e.IsWhole) (x0 : Vec Ideal S16 .f32) (x1 x2 x3 : Vec Ideal S1x2048x128 .bf16)
  (s : ℝ) (hs : slope (F := Ideal) c i arg2 harg2 x0 = (s : EReal)) (q k v : Fin 2048 → Fin 128 → ℝ)

include hs

theorem out1_at (hq : Held 4 x1 q) (hk : Held 4 x2 k) (hv : Held 4 x3 v) (y : S2048x128.Idx) :
    View.canon (kernelRun0_A.sl.HS0_16 (F := Ideal) c i arg2 harg2 a ha b hb e he x0 x1 x2 x3) y = outVec 4 s q k v id y := by
  rw [out1_pieces]
  refine View.canon_apply_of_pieces (outVec 4 s q k v id) _ ?_ y ?_
  · intro p hp x
    obtain ⟨⟨r, n⟩, -, rfl⟩ := List.mem_map.mp hp
    have hrow := task1_row c i arg2 harg2 a b e ha hb he x0 x1 x2 x3 s hs q k v hq hk hv r n (x 0) ((rect1 r n).emb x 0) (by rw [Rect.emb_apply]; rfl)
    refine (outOf_row 4 s q k v _ _ _ x hrow).trans ?_
    have : (rect1 r n).emb x 1 = x 1 := Fin.ext (by rw [Rect.emb_apply]; simp [rect1])
    simp only [outVec, this, id]
  · have h0 : (y 0).val < 2048 := (y 0).isLt
    have h1 : (y 1).val < 128 := (y 1).isLt
    refine ⟨_, List.mem_map.mpr ⟨(⟨(y 0).val % 4, by omega⟩, ⟨(y 0).val / 512, by omega⟩), mem_all1 _, rfl⟩, (LoadRect.mem_set _).mpr fun ax => ?_⟩
    fin_cases ax
    · exact ⟨(y 0).val % 512 / 4, by simp [rect1, S128x128]; omega, by simp [rect1]; omega⟩
    · exact ⟨(y 1).val, h1, by simp [rect1]⟩

theorem lse1_at (hq : Held 4 x1 q) (hk : Held 4 x2 k) (hv : Held 4 x3 v) (y : S2048x128.Idx) :
    View.canon (kernelRun0_A.sl.HS1_16 (F := Ideal) c i arg2 harg2 a ha b hb e he x0 x1 x2 x3) y = lseVec 4 s q k id y := by
  rw [lse1_pieces]
  refine View.canon_apply_of_pieces (lseVec 4 s q k id) _ ?_ y ?_
  · intro p hp x
    obtain ⟨⟨r, n⟩, -, rfl⟩ := List.mem_map.mp hp
    have hrow := task1_row c i arg2 harg2 a b e ha hb he x0 x1 x2 x3 s hs q k v hq hk hv r n (x 0) ((rect1 r n).emb x 0) (by rw [Rect.emb_apply]; rfl)
    exact lseOf_row 4 s q k v _ _ _ x hrow
  · have h0 : (y 0).val < 2048 := (y 0).isLt
    have h1 : (y 1).val < 128 := (y 1).isLt
    refine ⟨_, List.mem_map.mpr ⟨(⟨(y 0).val % 4, by omega⟩, ⟨(y 0).val / 512, by omega⟩), mem_all1 _, rfl⟩, (LoadRect.mem_set _).mpr fun ax => ?_⟩
    fin_cases ax
    · exact ⟨(y 0).val % 512 / 4, by simp [rect1, S128x128]; omega, by simp [rect1]; omega⟩
    · exact ⟨(y 1).val, h1, by simp [rect1]⟩

omit hs in
theorem home_rect2 (g h : Fin 4) (x : (rect2 g h).shape.Idx) : (home ((rect2 g h).emb x 0)).val = g.val + 4 * (h.val + 4 * (x 0).val) := by
  have h0 : (x 0).val < 128 := (x 0).isLt
  have : ((rect2 g h).emb x 0).val = g.val * 512 + h.val + 4 * (x 0).val := by rw [Rect.emb_apply]; rfl
  simp only [home, this]
  omega

theorem tout2_at (hq : Held 16 x1 q) (hk : Held 16 x2 k) (hv : Held 16 x3 v) (y : S2048x128.Idx) :
    View.canon (kernelRun0_A.sl.HS4_16 (F := Ideal) c i arg2 harg2 a ha b hb e he x0 x1 x2 x3) y = outVec 16 s q k v home y := by
  rw [tout2_pieces]
  refine View.canon_apply_of_pieces (outVec 16 s q k v home) _ ?_ y ?_
  · intro p hp x
    obtain ⟨⟨h, g⟩, -, rfl⟩ := List.mem_map.mp hp
    have hrow := task2_row c i arg2 harg2 a b e ha hb he x0 x1 x2 x3 s hs q k v hq hk hv g h (x 0) (home ((rect2 g h).emb x 0)) (home_rect2 g h x)
    refine (outOf_row 16 s q k v _ _ _ x hrow).trans ?_
    have : (rect2 g h).emb x 1 = x 1 := Fin.ext (by rw [Rect.emb_apply]; simp [rect2])
    simp only [outVec, this, id]
  · have h0 : (y 0).val < 2048 := (y 0).isLt
    have h1 : (y 1).val < 128 := (y 1).isLt
    refine ⟨_, List.mem_map.mpr ⟨(⟨(y 0).val % 4, by omega⟩, ⟨(y 0).val / 512, by omega⟩), mem_all1 _, rfl⟩, (LoadRect.mem_set _).mpr fun ax => ?_⟩
    fin_cases ax
    · exact ⟨(y 0).val % 512 / 4, by simp [rect2, S128x128]; omega, by simp [rect2]; omega⟩
    · exact ⟨(y 1).val, h1, by simp [rect2]⟩

theorem tlse2_at (hq : Held 16 x1 q) (hk : Held 16 x2 k) (hv : Held 16 x3 v) (y : S2048x128.Idx) :
    View.canon (kernelRun0_A.sl.HS5_16 (F := Ideal) c i arg2 harg2 a ha b hb e he x0 x1 x2 x3) y = lseVec 16 s q k home y := by
  rw [tlse2_pieces]
  refine View.canon_apply_of_pieces (lseVec 16 s q k home) _ ?_ y ?_
  · intro p hp x
    obtain ⟨⟨h, g⟩, -, rfl⟩ := List.mem_map.mp hp
    have hrow := task2_row c i arg2 harg2 a b e ha hb he x0 x1 x2 x3 s hs q k v hq hk hv g h (x 0) (home ((rect2 g h).emb x 0)) (home_rect2 g h x)
    exact lseOf_row 16 s q k v _ _ _ x hrow
  · have h0 : (y 0).val < 2048 := (y 0).isLt
    have h1 : (y 1).val < 128 := (y 1).isLt
    refine ⟨_, List.mem_map.mpr ⟨(⟨(y 0).val % 4, by omega⟩, ⟨(y 0).val / 512, by omega⟩), mem_all1 _, rfl⟩, (LoadRect.mem_set _).mpr fun ax => ?_⟩
    fin_cases ax
    · exact ⟨(y 0).val % 512 / 4, by simp [rect2, S128x128]; omega, by simp [rect2]; omega⟩
    · exact ⟨(y 1).val, h1, by simp [rect2]⟩

omit hs in
theorem hop_mem (y : S2048x128.Idx) : y ∈ (hop2 ⟨(y 0).val % 4, by omega⟩).set := by
  have h0 : (y 0).val < 2048 := (y 0).isLt
  have h1 : (y 1).val < 128 := (y 1).isLt
  refine (LoadRect.mem_set _).mpr fun ax => ?_
  fin_cases ax
  · exact ⟨(y 0).val / 4, by simp [hop2, S512x128]; omega, by simp [hop2]; omega⟩
  · exact ⟨(y 1).val, h1, by simp [hop2]⟩

omit hs in
/-- The second step moves every row to where it belongs. -/
theorem hop_home (g : Fin 4) (x : S512x128.Idx) : home ((part2 g).toLoadRect.idx x 0) = (hop2 g).emb x 0 ∧ (part2 g).toLoadRect.idx x 1 = (hop2 g).emb x 1 := by
  have h0 : (x 0).val < 512 := (x 0).isLt
  have e0 : ((part2 g).toLoadRect.idx x 0).val = g.val * 512 + (x 0).val := by show (part2 g).off 0 + (part2 g).stride 0 * (x 0).val = _; simp [part2]
  have e1 : ((hop2 g).emb x 0).val = g.val + 4 * (x 0).val := by show (hop2 g).off 0 + (hop2 g).stride 0 * (x 0).val = _; simp [hop2]
  constructor
  · apply Fin.ext
    rw [e1]
    simp only [home, e0]
    omega
  · apply Fin.ext
    show (part2 g).off 1 + (part2 g).stride 1 * (x 1).val = (hop2 g).off 1 + (hop2 g).stride 1 * (x 1).val
    simp [part2, hop2]

theorem out2_at (arg18 : Scratch) (hq : Held 16 x1 q) (hk : Held 16 x2 k) (hv : Held 16 x3 v) (y : S2048x128.Idx) :
    View.canon (kernelRun0_A.sl.HS2_4 (F := Ideal) c i arg2 harg2 a ha b hb e he arg18 x0 x1 x2 x3) y = outVec 16 s q k v id y := by
  rw [out2_pieces]
  refine View.canon_apply_of_pieces (outVec 16 s q k v id) _ ?_ y ?_
  · intro p hp x
    obtain ⟨g, -, rfl⟩ := List.mem_map.mp hp
    simp only [View.readCov_eq_canon']
    have hx : ∀ W : S512x128.Idx → EReal, shapeCast (α := EReal) S512x128 W shapeCasts_S512x128_S512x128 x = W x := fun W => by rw [shapeCast_self]
    refine (hx _).trans ((tout2_at c i arg2 harg2 a b e ha hb he x0 x1 x2 x3 s hs q k v hq hk hv _).trans ?_)
    simp only [outVec, (hop_home g x).1, (hop_home g x).2, id]
  · exact ⟨_, List.mem_map.mpr ⟨⟨(y 0).val % 4, by omega⟩, by generalize (⟨(y 0).val % 4, _⟩ : Fin 4) = g; fin_cases g <;> simp, rfl⟩, hop_mem y⟩

theorem lse2_at (arg19 : Scratch) (hq : Held 16 x1 q) (hk : Held 16 x2 k) (hv : Held 16 x3 v) (y : S2048x128.Idx) :
    View.canon (kernelRun0_A.sl.HS3_4 (F := Ideal) c i arg2 harg2 a ha b hb e he arg19 x0 x1 x2 x3) y = lseVec 16 s q k id y := by
  rw [lse2_pieces]
  refine View.canon_apply_of_pieces (lseVec 16 s q k id) _ ?_ y ?_
  · intro p hp x
    obtain ⟨g, -, rfl⟩ := List.mem_map.mp hp
    simp only [View.readCov_eq_canon']
    have hx : ∀ W : S512x128.Idx → EReal, shapeCast (α := EReal) S512x128 W shapeCasts_S512x128_S512x128 x = W x := fun W => by rw [shapeCast_self]
    refine (hx _).trans ((tlse2_at c i arg2 harg2 a b e ha hb he x0 x1 x2 x3 s hs q k v hq hk hv _).trans ?_)
    simp only [lseVec, (hop_home g x).1, id]
  · exact ⟨_, List.mem_map.mpr ⟨⟨(y 0).val % 4, by omega⟩, by generalize (⟨(y 0).val % 4, _⟩ : Fin 4) = g; fin_cases g <;> simp, rfl⟩, hop_mem y⟩

end

end Cert.KernelIdeal.Value
-- ==== Proof.DilatedOut.lean ====
/-
  The output block of an iteration of the dilated attention kernel: at every position and lane the three windows together,
  gated.
-/
module

public import proofs.«01_k».proof.Proof.DilatedScratch

@[expose] public section
set_option maxRecDepth 16384

noncomputable section

namespace Cert.KernelIdeal.Value
open Cert.KernelIdeal Cert.KernelIdeal.Gen Cert.Dilated Idealize.ShloMosaic Idealize.ShloMosaic.TcCoe Idealize.SL.Sem

/-- The combination of a row of dilation one with the other two. -/
theorem combine_row (s : ℝ) (f : Fin 10 → Fin 2048 → Fin 128 → ℝ) (t : Fin 2048) (m : FVec Ideal S128x1 .f32) (a : FVec Ideal S128x256 .f32)
    (l1 l2 o1 o2 : Vec Ideal S128x128 .f32) (z : Vec Ideal S1x128x128 .bf16) (j e : Fin 128)
    (hr : Row 1 s (f 0) (f 1) (f 2) t (m (ix2 j 0)) (fun l => a (ix2 j l)))
    (hl1 : l1 (ix2 j e) = ((Real.log (total 4 s (f 3) (f 4) t) * (Real.log 2)⁻¹ : ℝ) : EReal))
    (hl2 : l2 (ix2 j e) = ((Real.log (total 16 s (f 6) (f 7) t) * (Real.log 2)⁻¹ : ℝ) : EReal))
    (ho1 : o1 (ix2 j e) = ((collected 4 s (f 3) (f 4) (f 5) t e / total 4 s (f 3) (f 4) t : ℝ) : EReal))
    (ho2 : o2 (ix2 j e) = ((collected 16 s (f 6) (f 7) (f 8) t e / total 16 s (f 6) (f 7) t : ℝ) : EReal))
    (hz : z (ix3 0 j e) = ((f 9 t e : ℝ) : EReal)) :
    combine m a l1 l2 o1 o2 z (ix3 0 j e) = (attended s f t e : EReal) := by
  obtain ⟨M, hm, ha⟩ := hr
  have hlow := row_low 1 s (f 0) (f 1) (f 2) t a j ha e (e.isLt.trans (by decide))
  have hhigh := row_high 1 s (f 0) (f 1) (f 2) t a j ha e (Nat.add_lt_add_left e.isLt 128)
  refine (combine_at m a l1 l2 o1 o2 z (ix3 0 j e)).trans ?_
  show (Ideal.div
      (Ideal.exp2 ((m (ix2 j 0) : EReal) * ((scale * (Real.log 2)⁻¹ : ℝ) : EReal) - max (max ((m (ix2 j 0) : EReal) * ((scale * (Real.log 2)⁻¹ : ℝ) : EReal)) (l1 (ix2 j e))) (l2 (ix2 j e))) * a (ix2 j ⟨e.val, _⟩)
        + Ideal.exp2 ((l1 (ix2 j e) : EReal) - max (max ((m (ix2 j 0) : EReal) * ((scale * (Real.log 2)⁻¹ : ℝ) : EReal)) (l1 (ix2 j e))) (l2 (ix2 j e))) * o1 (ix2 j e)
        + Ideal.exp2 ((l2 (ix2 j e) : EReal) - max (max ((m (ix2 j 0) : EReal) * ((scale * (Real.log 2)⁻¹ : ℝ) : EReal)) (l1 (ix2 j e))) (l2 (ix2 j e))) * o2 (ix2 j e))
      (Ideal.exp2 ((m (ix2 j 0) : EReal) * ((scale * (Real.log 2)⁻¹ : ℝ) : EReal) - max (max ((m (ix2 j 0) : EReal) * ((scale * (Real.log 2)⁻¹ : ℝ) : EReal)) (l1 (ix2 j e))) (l2 (ix2 j e))) * a (ix2 j ⟨128 + e.val, _⟩)
        + Ideal.exp2 ((l1 (ix2 j e) : EReal) - max (max ((m (ix2 j 0) : EReal) * ((scale * (Real.log 2)⁻¹ : ℝ) : EReal)) (l1 (ix2 j e))) (l2 (ix2 j e)))
        + Ideal.exp2 ((l2 (ix2 j e) : EReal) - max (max ((m (ix2 j 0) : EReal) * ((scale * (Real.log 2)⁻¹ : ℝ) : EReal)) (l1 (ix2 j e))) (l2 (ix2 j e))))
      * Ideal.div (z (ix3 0 j e)) (1 + Ideal.exp (0 - z (ix3 0 j e))) : EReal) = _
  simp only [hm, hl1, hl2, ho1, ho2, hz, hlow, hhigh, silu_real]
  have hmax : ∀ x y : ℝ, max (x : EReal) (y : EReal) = ((max x y : ℝ) : EReal) := fun x y => (EReal.coe_strictMono.monotone.map_max).symm
  have hM : (M : EReal) * ((scale * (Real.log 2)⁻¹ : ℝ) : EReal) = ((M * (scale * (Real.log 2)⁻¹) : ℝ) : EReal) := (EReal.coe_mul _ _).symm
  have hmx : max (max ((M : EReal) * ((scale * (Real.log 2)⁻¹ : ℝ) : EReal)) ((Real.log (total 4 s (f 3) (f 4) t) * (Real.log 2)⁻¹ : ℝ) : EReal)) ((Real.log (total 16 s (f 6) (f 7) t) * (Real.log 2)⁻¹ : ℝ) : EReal)
      = ((max (max (M * (scale * (Real.log 2)⁻¹)) (Real.log (total 4 s (f 3) (f 4) t) * (Real.log 2)⁻¹)) (Real.log (total 16 s (f 6) (f 7) t) * (Real.log 2)⁻¹) : ℝ) : EReal) := by
    rw [hM, hmax, hmax]
  rw [hmx, combine_real M scale _ _ _ _ (total_pos 1 s (f 0) (f 1) t) (total_pos 4 s (f 3) (f 4) t) (total_pos 16 s (f 6) (f 7) t), ← EReal.coe_mul]
  rfl

section
variable (c : Dev nD) (i : grid0.Coords) (arg2 : Memref sig .tc .smem S16 .f32) (harg2 : arg2.IsWhole)
  (arg3 : Block) (harg3 : arg3.IsWhole) (arg4 : Block) (harg4 : arg4.IsWhole) (arg5 : Block) (harg5 : arg5.IsWhole)
  (arg6 : Block) (harg6 : arg6.IsWhole) (arg7 : Block) (harg7 : arg7.IsWhole) (arg8 : Block) (harg8 : arg8.IsWhole)
  (arg9 : Block) (harg9 : arg9.IsWhole) (arg10 : Block) (harg10 : arg10.IsWhole) (arg11 : Block) (harg11 : arg11.IsWhole)
  (arg12 : Block) (harg12 : arg12.IsWhole)
  (x0 : Vec Ideal S16 .f32) (x1 x2 x3 x4 x5 x6 x7 x8 x9 x10 : Vec Ideal S1x2048x128 .bf16) (arg14 arg15 arg16 arg17 arg18 arg19 : Scratch)
  (s : ℝ) (hs : slope (F := Ideal) c i arg2 harg2 x0 = (s : EReal)) (f : Fin 10 → Fin 2048 → Fin 128 → ℝ)
  (h1 : Held 1 x1 (f 0)) (h2 : Held 1 x2 (f 1)) (h3 : Held 1 x3 (f 2)) (h4 : Held 4 x4 (f 3)) (h5 : Held 4 x5 (f 4)) (h6 : Held 4 x6 (f 5))
  (h7 : Held 16 x7 (f 6)) (h8 : Held 16 x8 (f 7)) (h9 : Held 16 x9 (f 8)) (h10 : Held 1 x10 (f 9))

include hs h1 h2 h3 h4 h5 h6 h7 h8 h9 h10

theorem store0_at (n : Fin 16) (j e : Fin 128) (t : Fin 2048) (ht : t.val = n.val * 128 + j.val) :
    store0 c i arg2 harg2 arg3 harg3 arg4 harg4 arg5 harg5 arg6 harg6 arg7 harg7 arg8 harg8 arg9 harg9 arg10 harg10 arg11 harg11 arg12 harg12
      x0 x1 x2 x3 x4 x5 x6 x7 x8 x9 x10 arg14 arg15 arg16 arg17 arg18 arg19 n (ix3 0 j e) = (attended s f t e : EReal) := by
  have hidx : (tile n).toLoadRect.idx (ix2 j e) = ix2 t e := by
    funext ax
    apply Fin.ext
    fin_cases ax
    · show n.val * 128 + 1 * j.val = t.val; omega
    · show 0 + 1 * e.val = e.val; omega
  unfold store0
  simp only [View.readCov_eq_canon']
  refine combine_row s f t _ _ _ _ _ _ _ j e (task0_row c i arg2 harg2 arg3 arg4 arg5 harg3 harg4 harg5 x0 x1 x2 x3 s hs _ _ _ h1 h2 h3 n j t ht) ?_ ?_ ?_ ?_ ?_
  · refine (congrArg _ hidx).trans ((lse1_at c i arg2 harg2 arg6 arg7 arg8 harg6 harg7 harg8 x0 x4 x5 x6 s hs _ _ _ h4 h5 h6 _).trans rfl)
  · refine (congrArg _ hidx).trans ((lse2_at c i arg2 harg2 arg9 arg10 arg11 harg9 harg10 harg11 x0 x7 x8 x9 s hs _ _ _ arg19 h7 h8 h9 _).trans rfl)
  · refine (congrArg _ hidx).trans ((out1_at c i arg2 harg2 arg6 arg7 arg8 harg6 harg7 harg8 x0 x4 x5 x6 s hs _ _ _ h4 h5 h6 _).trans rfl)
  · refine (congrArg _ hidx).trans ((out2_at c i arg2 harg2 arg9 arg10 arg11 harg9 harg10 harg11 x0 x7 x8 x9 s hs _ _ _ arg18 h7 h8 h9 _).trans rfl)
  · exact (rows_at arg12 harg12 x10 (n.val * 128) _ (ix3 0 j e)).trans (h10 (t.val / 512) 0 (t.val % 512) _ t e (by omega) (by omega) (by show n.val * 128 + j.val = _; omega) (by omega))

/-- The sixteen stores make the output block. -/
theorem stores_at (y : S1x2048x128.Idx) :
    View.canon (all0.map fun n => (⟨tileOut n, store0 c i arg2 harg2 arg3 harg3 arg4 harg4 arg5 harg5 arg6 harg6 arg7 harg7 arg8 harg8 arg9 harg9 arg10 harg10 arg11 harg11 arg12 harg12
      x0 x1 x2 x3 x4 x5 x6 x7 x8 x9 x10 arg14 arg15 arg16 arg17 arg18 arg19 n⟩ : View.Piece (Elt Ideal) S1x2048x128 .bf16)) y = (attended s f (y 1) (y 2) : EReal) := by
  let G : Vec Ideal S1x2048x128 .bf16 := fun y => (attended s f (y 1) (y 2) : EReal)
  refine View.canon_apply_of_pieces G _ ?_ y ?_
  · intro p hp x
    obtain ⟨n, -, rfl⟩ := List.mem_map.mp hp
    have hx : x = ix3 (n0 := 1) (n1 := 128) (n2 := 128) 0 (x 1) (x 2) := by
      funext ax
      fin_cases ax
      · exact Subsingleton.elim (α := Fin 1) _ _
      · rfl
      · rfl
    have h := store0_at c i arg2 harg2 arg3 harg3 arg4 harg4 arg5 harg5 arg6 harg6 arg7 harg7 arg8 harg8 arg9 harg9 arg10 harg10 arg11 harg11 arg12 harg12
      x0 x1 x2 x3 x4 x5 x6 x7 x8 x9 x10 arg14 arg15 arg16 arg17 arg18 arg19 s hs f h1 h2 h3 h4 h5 h6 h7 h8 h9 h10 n (x 1) (x 2) ((tileOut n).emb x 1)
      (by show n.val * 128 + 1 * (x 1).val = n.val * 128 + (x 1).val; omega)
    have he : (tileOut n).emb x 2 = x 2 := Fin.ext (by show 0 + 1 * (x 2).val = (x 2).val; omega)
    rw [hx]
    refine h.trans ?_
    rw [← hx]
    show _ = (attended s f ((tileOut n).emb x 1) ((tileOut n).emb x 2) : EReal)
    rw [he]
  · have b0 : (y 0).val < 1 := (y 0).isLt
    have b1 : (y 1).val < 2048 := (y 1).isLt
    have b2 : (y 2).val < 128 := (y 2).isLt
    refine ⟨_, List.mem_map.mpr ⟨⟨(y 1).val / 128, by omega⟩, mem_all0 _, rfl⟩, (LoadRect.mem_set _).mpr fun ax => ?_⟩
    fin_cases ax
    · exact ⟨0, by show 0 < 1; omega, by show (y 0).val = 0 + 1 * 0; omega⟩
    · exact ⟨(y 1).val % 128, Nat.mod_lt _ (by decide), by show (y 1).val = (y 1).val / 128 * 128 + 1 * ((y 1).val % 128); omega⟩
    · exact ⟨(y 2).val, b2, by show (y 2).val = 0 + 1 * (y 2).val; omega⟩
end

end Cert.KernelIdeal.Value
-- ==== Proof.DilatedSpec.lean ====
/-
  The attention of the layer over three dilated windows, as a function of the slopes and of the projection's rows.

  The columns of the projection are ten parts of sixteen heads of 128 lanes. In the part of a dilation d the rows of each 512
  positions lie residue by residue: the position T * 512 + u * d + r lies in row T * 512 + r * (512 / d) + u.
-/
module

public import proofs.«01_k».proof.Proof.WindowSpec

@[expose] public section

noncomputable section

namespace Cert.Dilated
open Idealize.ShloMosaic

/-- The dilation of a part. -/
def dilation : Fin 10 → ℕ := ![1, 1, 1, 4, 4, 4, 16, 16, 16, 1]

/-- The row in which a position lies. -/
def lies (d : ℕ) (t : Fin 2048) : Fin 2048 :=
  ⟨(t.val / 512 * 512 + t.val % 512 % d * (512 / d) + t.val % 512 / d) % 2048, Nat.mod_lt _ (by decide)⟩

theorem lies_eq (d : ℕ) (hd : d = 1 ∨ d = 4 ∨ d = 16) (T r u : ℕ) (a t : Fin 2048) (hr : r < d) (hu : u * d < 512)
    (ha : a.val = T * 512 + r * (512 / d) + u) (ht : t.val = T * 512 + u * d + r) : lies d t = a := by
  apply Fin.ext
  have h1 := a.isLt
  have h2 := t.isLt
  show (t.val / 512 * 512 + t.val % 512 % d * (512 / d) + t.val % 512 / d) % 2048 = a.val
  have hT : t.val / 512 = T := by rcases hd with rfl | rfl | rfl <;> omega
  have hR : t.val % 512 = u * d + r := by omega
  have hr' : (u * d + r) % d = r := by rcases hd with rfl | rfl | rfl <;> omega
  have hu' : (u * d + r) / d = u := by rcases hd with rfl | rfl | rfl <;> omega
  rw [hT, hR, hr', hu', ← ha]
  exact Nat.mod_eq_of_lt h1

section
variable (S : Fin 16 → EReal) (X : Fin 4 → Fin 2048 → Fin 20480 → EReal)

/-- A column of the projection. -/
def column (c : Fin 10) (h : Fin 16) (l : Fin 128) : Fin 20480 :=
  ⟨(c.val * 16 + h.val) * 128 + l.val, by have := c.isLt; have := h.isLt; have := l.isLt; omega⟩

/-- The parts of a head in the order of positions. -/
def part (b : Fin 4) (h : Fin 16) (c : Fin 10) (t : Fin 2048) (l : Fin 128) : ℝ := (X b (lies (dilation c) t) (column c h l)).toReal

/-- The gated attention of a head. -/
def headOut (b : Fin 4) (h : Fin 16) (t : Fin 2048) (e : Fin 128) : ℝ := attended (S h).toReal (part X b h) t e

/-- The gated attention, the heads side by side. -/
def gated (b : Fin 4) (t : Fin 2048) (col : Fin 2048) : ℝ :=
  headOut S X b ⟨col.val / 128, by have := col.isLt; omega⟩ t ⟨col.val % 128, Nat.mod_lt _ (by decide)⟩

end

end Cert.Dilated
-- ==== Proof.DilatedKernel.lean ====
/-
  The dilated attention kernel's whole result: at every batch, position and column the gated attention.
-/
module

public import proofs.«01_k».proof.Proof.DilatedOut
public import proofs.«01_k».proof.Proof.DilatedSpec
public import Idealize.ShloMosaic.Lib.Pipeline.ValueKit
public import Idealize.ShloMosaic.Lib.Tactic.ValueTie

@[expose] public section
set_option maxRecDepth 16384

noncomputable section

namespace Cert.KernelIdeal.Value
open Cert.KernelIdeal Cert.KernelIdeal.Gen Cert.Dilated Idealize.ShloMosaic Idealize.ShloMosaic.TcCoe Idealize.SL.Sem

/-- A block that holds a head's columns of a part holds that part in the order of positions. -/
theorem held_part (X : Fin 4 → Fin 2048 → Fin 20480 → EReal) (hX : ∀ b a l, X b a l ≠ ⊥ ∧ X b a l ≠ ⊤) (b : Fin 4) (h : Fin 16) (k : Fin 10)
    (x : Vec Ideal S1x2048x128 .bf16) (hx : ∀ a l, (x (ix3 0 a l) : EReal) = X b a (column k h l)) (d : ℕ) (hk : dilation k = d)
    (hd : d = 1 ∨ d = 4 ∨ d = 16) : Held d x (part X b h k) := by
  intro T r u a t l hr hu ha ht
  rw [hx, part, hk, lies_eq d hd T r u a t hr hu ha ht, EReal.coe_toReal (hX _ _ _).2 (hX _ _ _).1]

variable (m : (ℓ : Loc nD τ sig) → Buf (Elt Ideal) ℓ)

/-- The slopes and the projection's rows. -/
abbrev slopes (c : Dev nD) : Vec Ideal S16 .f32 := m ((c : Thread nD τ).loc main_arg0)
abbrev proj (c : Dev nD) : Vec Ideal S4x2048x20480 .bf16 := m ((c : Thread nD τ).loc main_arg1)

/-- What the kernel leaves in its result. -/
def G0 (c : Dev nD) : Vec Ideal S4x2048x2048 .bf16 :=
  fun i => (gated (fun h => slopes m c (ix1 h)) (fun b a l => proj m c (ix3 b a l)) (i 0) (i 1) (i 2) : EReal)

/-- The batch and the head of an iteration. -/
def batchOf (t : Fin cfg0.N) : Fin 4 := ⟨t.val / 16, by have := t.isLt.trans_eq (show cfg0.N = 64 from N_0); omega⟩
def headOf (t : Fin cfg0.N) : Fin 16 := ⟨t.val % 16, Nat.mod_lt _ (by decide)⟩

theorem indices : ∀ t : Fin cfg0.N, (win0_1.index t = ![t.val / 16, 0, t.val % 16] ∧ win0_2.index t = ![t.val / 16, 0, 16 + t.val % 16]
    ∧ win0_3.index t = ![t.val / 16, 0, 32 + t.val % 16] ∧ win0_4.index t = ![t.val / 16, 0, 48 + t.val % 16]
    ∧ win0_5.index t = ![t.val / 16, 0, 64 + t.val % 16] ∧ win0_6.index t = ![t.val / 16, 0, 80 + t.val % 16]
    ∧ win0_7.index t = ![t.val / 16, 0, 96 + t.val % 16] ∧ win0_8.index t = ![t.val / 16, 0, 112 + t.val % 16]
    ∧ win0_9.index t = ![t.val / 16, 0, 128 + t.val % 16] ∧ win0_10.index t = ![t.val / 16, 0, 144 + t.val % 16])
    ∧ win0_0.index t = ![0] ∧ win0_11.index t = ![t.val / 16, 0, t.val % 16] ∧ (grid0.coords t 1).val = t.val % 16 :=
  (by decide +kernel : ∀ t : Fin grid0.N, (win0_1.index t = ![t.val / 16, 0, t.val % 16] ∧ win0_2.index t = ![t.val / 16, 0, 16 + t.val % 16]
    ∧ win0_3.index t = ![t.val / 16, 0, 32 + t.val % 16] ∧ win0_4.index t = ![t.val / 16, 0, 48 + t.val % 16]
    ∧ win0_5.index t = ![t.val / 16, 0, 64 + t.val % 16] ∧ win0_6.index t = ![t.val / 16, 0, 80 + t.val % 16]
    ∧ win0_7.index t = ![t.val / 16, 0, 96 + t.val % 16] ∧ win0_8.index t = ![t.val / 16, 0, 112 + t.val % 16]
    ∧ win0_9.index t = ![t.val / 16, 0, 128 + t.val % 16] ∧ win0_10.index t = ![t.val / 16, 0, 144 + t.val % 16])
    ∧ win0_0.index t = ![0] ∧ win0_11.index t = ![t.val / 16, 0, t.val % 16] ∧ (grid0.coords t 1).val = t.val % 16)

theorem slope_eq (c : Dev nD) (t : Fin cfg0.N) : slope (F := Ideal) c (grid0.coords t) (ms0_0 t) (hs0_0 t) (iblk m c 0 t) = slopes m c (ix1 (headOf t)) := by
  obtain ⟨-, e0, -, ec⟩ := indices t
  rw [slope_at]
  blk_ext [iblk, V, e0]
  exact ec

/-- What the blocks of an iteration hold: its head's columns of each part. -/
theorem blocks (c : Dev nD) (t : Fin cfg0.N) :
    (∀ a l, (iblk m c 1 t : Vec Ideal S1x2048x128 .bf16) (ix3 0 a l) = proj m c (ix3 (batchOf t) a (column 0 (headOf t) l)))
    ∧ (∀ a l, (iblk m c 2 t : Vec Ideal S1x2048x128 .bf16) (ix3 0 a l) = proj m c (ix3 (batchOf t) a (column 1 (headOf t) l)))
    ∧ (∀ a l, (iblk m c 3 t : Vec Ideal S1x2048x128 .bf16) (ix3 0 a l) = proj m c (ix3 (batchOf t) a (column 2 (headOf t) l)))
    ∧ (∀ a l, (iblk m c 4 t : Vec Ideal S1x2048x128 .bf16) (ix3 0 a l) = proj m c (ix3 (batchOf t) a (column 3 (headOf t) l)))
    ∧ (∀ a l, (iblk m c 5 t : Vec Ideal S1x2048x128 .bf16) (ix3 0 a l) = proj m c (ix3 (batchOf t) a (column 4 (headOf t) l)))
    ∧ (∀ a l, (iblk m c 6 t : Vec Ideal S1x2048x128 .bf16) (ix3 0 a l) = proj m c (ix3 (batchOf t) a (column 5 (headOf t) l)))
    ∧ (∀ a l, (iblk m c 7 t : Vec Ideal S1x2048x128 .bf16) (ix3 0 a l) = proj m c (ix3 (batchOf t) a (column 6 (headOf t) l)))
    ∧ (∀ a l, (iblk m c 8 t : Vec Ideal S1x2048x128 .bf16) (ix3 0 a l) = proj m c (ix3 (batchOf t) a (column 7 (headOf t) l)))
    ∧ (∀ a l, (iblk m c 9 t : Vec Ideal S1x2048x128 .bf16) (ix3 0 a l) = proj m c (ix3 (batchOf t) a (column 8 (headOf t) l)))
    ∧ (∀ a l, (iblk m c 10 t : Vec Ideal S1x2048x128 .bf16) (ix3 0 a l) = proj m c (ix3 (batchOf t) a (column 9 (headOf t) l))) := by
  obtain ⟨⟨e1, e2, e3, e4, e5, e6, e7, e8, e9, e10⟩, -⟩ := indices t
  refine ⟨fun a l => ?_, fun a l => ?_, fun a l => ?_, fun a l => ?_, fun a l => ?_, fun a l => ?_, fun a l => ?_, fun a l => ?_, fun a l => ?_, fun a l => ?_⟩
  · blk_ext [iblk, V, e1]
    · show t.val / 16 + 0 = t.val / 16; omega
    · show _ = (0 * 16 + t.val % 16) * 128 + l.val; omega
  · blk_ext [iblk, V, e2]
    · show t.val / 16 + 0 = t.val / 16; omega
    · show _ = (1 * 16 + t.val % 16) * 128 + l.val; omega
  · blk_ext [iblk, V, e3]
    · show t.val / 16 + 0 = t.val / 16; omega
    · show _ = (2 * 16 + t.val % 16) * 128 + l.val; omega
  · blk_ext [iblk, V, e4]
    · show t.val / 16 + 0 = t.val / 16; omega
    · show _ = (3 * 16 + t.val % 16) * 128 + l.val; omega
  · blk_ext [iblk, V, e5]
    · show t.val / 16 + 0 = t.val / 16; omega
    · show _ = (4 * 16 + t.val % 16) * 128 + l.val; omega
  · blk_ext [iblk, V, e6]
    · show t.val / 16 + 0 = t.val / 16; omega
    · show _ = (5 * 16 + t.val % 16) * 128 + l.val; omega
  · blk_ext [iblk, V, e7]
    · show t.val / 16 + 0 = t.val / 16; omega
    · show _ = (6 * 16 + t.val % 16) * 128 + l.val; omega
  · blk_ext [iblk, V, e8]
    · show t.val / 16 + 0 = t.val / 16; omega
    · show _ = (7 * 16 + t.val % 16) * 128 + l.val; omega
  · blk_ext [iblk, V, e9]
    · show t.val / 16 + 0 = t.val / 16; omega
    · show _ = (8 * 16 + t.val % 16) * 128 + l.val; omega
  · blk_ext [iblk, V, e10]
    · show t.val / 16 + 0 = t.val / 16; omega
    · show _ = (9 * 16 + t.val % 16) * 128 + l.val; omega

/-- The result of the kernel over real slopes and rows. -/
theorem G0_eq (c : Dev nD) (hS : ∀ h, slopes m c h ≠ (⊥ : EReal) ∧ slopes m c h ≠ (⊤ : EReal)) (hX : ∀ i, proj m c i ≠ (⊥ : EReal) ∧ proj m c i ≠ (⊤ : EReal)) :
    (dats m 0 c).arrAt 11 cfg0.N = G0 m c := by
  refine (dats m 0 c).arrAt_eq_of_covers 11 _ (by decide +kernel) fun t hf y => ?_
  obtain ⟨⟨e1, e2, e3, e4, e5, e6, e7, e8, e9, e10⟩, e0, e11, ec⟩ := indices t
  have hs : slope (F := Ideal) c (grid0.coords t) (ms0_0 t) (hs0_0 t) (iblk m c 0 t) = (((slopes m c (ix1 (headOf t)) : EReal).toReal : ℝ) : EReal) :=
    (slope_eq m c t).trans (EReal.coe_toReal (hS _).2 (hS _).1).symm
  blk_simp
  rw [after0_11, out_pieces]
  have held := held_part (fun b a l => proj m c (ix3 b a l)) (fun b a l => hX _) (batchOf t) (headOf t)
  have main := stores_at c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t)
    (iblk m c 4 t) (iblk m c 5 t) (iblk m c 6 t) (iblk m c 7 t) (iblk m c 8 t) (iblk m c 9 t) (iblk m c 10 t) scM0_0 scM0_1 scM0_2 scM0_3 scM0_4 scM0_5
    _ hs (part (fun b a l => proj m c (ix3 b a l)) (batchOf t) (headOf t))
    (held 0 _ (fun a l => (blocks m c t).1 a l) 1 rfl (.inl rfl))
    (held 1 _ (fun a l => (blocks m c t).2.1 a l) 1 rfl (.inl rfl))
    (held 2 _ (fun a l => (blocks m c t).2.2.1 a l) 1 rfl (.inl rfl))
    (held 3 _ (fun a l => (blocks m c t).2.2.2.1 a l) 4 rfl (.inr (.inl rfl)))
    (held 4 _ (fun a l => (blocks m c t).2.2.2.2.1 a l) 4 rfl (.inr (.inl rfl)))
    (held 5 _ (fun a l => (blocks m c t).2.2.2.2.2.1 a l) 4 rfl (.inr (.inl rfl)))
    (held 6 _ (fun a l => (blocks m c t).2.2.2.2.2.2.1 a l) 16 rfl (.inr (.inr rfl)))
    (held 7 _ (fun a l => (blocks m c t).2.2.2.2.2.2.2.1 a l) 16 rfl (.inr (.inr rfl)))
    (held 8 _ (fun a l => (blocks m c t).2.2.2.2.2.2.2.2.1 a l) 16 rfl (.inr (.inr rfl)))
    (held 9 _ (fun a l => (blocks m c t).2.2.2.2.2.2.2.2.2 a l) 1 rfl (.inl rfl))
  refine (main _).trans ?_
  have b1 : (y 1).val < 2048 := (y 1).isLt
  have b2 : (y 2).val < 128 := (y 2).isLt
  have hc : t.val % 16 * 128 + (y 2).val < 2048 := by omega
  have he : (win0_11.blk t).view.emb y = (ix3 (batchOf t) (y 1) ⟨t.val % 16 * 128 + (y 2).val, hc⟩ : S4x2048x2048.Idx) := by
    blk_ext [e11]
    rfl
  rw [he]
  have hh : (⟨(t.val % 16 * 128 + (y 2).val) / 128, by omega⟩ : Fin 16) = headOf t := Fin.ext (by show _ = t.val % 16; simp only; omega)
  have hl : (⟨(t.val % 16 * 128 + (y 2).val) % 128, by omega⟩ : Fin 128) = y 2 := Fin.ext (by show _ = (y 2).val; simp only; omega)
  show _ = ((headOut _ _ (batchOf t) ⟨(t.val % 16 * 128 + (y 2).val) / 128, _⟩ (y 1) ⟨(t.val % 16 * 128 + (y 2).val) % 128, _⟩ : ℝ) : EReal)
  rw [hh, hl]
  rfl

end Cert.KernelIdeal.Value

end
-- ==== Proof.DilatedStack.lean ====
/-
  The reference's queries, keys and values: each group's columns, put in the order of positions, stacked.
-/
module

public import proofs.«01_k».proof.Proof.Gen.ReferenceIdeal.Run
public import proofs.«01_k».proof.Proof.DilatedSpec
public import Idealize.ShloMosaic.Lib.Pipeline.ValueKit
public import Idealize.ShloMosaic.Lib.Tactic.ValueTie

@[expose] public section
set_option maxRecDepth 16384

noncomputable section

namespace Cert.ReferenceIdeal.Value
open Cert.ReferenceIdeal Cert.ReferenceIdeal.Gen Cert.Dilated Idealize.ShloMosaic Idealize.ShloMosaic.TcCoe Idealize.SL.Sem

/-- The columns of a group in the order of positions, by dilation. -/
def ordered1 (x : Vec Ideal S4x2048x2048 .f32) : Vec Ideal S1x4x2048x16x128 .f32 :=
  broadcastInDim S1x4x2048x16x128 ![1, 2, 3, 4] bcast_S4x2048x16x128_S1x4x2048x16x128_1_2_3_4 (shapeCast _ (shapeCast _ (transpose S4x4x512x1x2048 [0, 1, 3, 2, 4] (shapeCast _ x shapeCasts_S4x2048x2048_S4x4x1x512x2048) transposes_S4x4x1x512x2048_S4x4x512x1x2048_0_1_3_2_4) shapeCasts_S4x4x512x1x2048_S4x2048x2048) shapeCasts_S4x2048x2048_S4x2048x16x128)
def ordered4 (x : Vec Ideal S4x2048x2048 .f32) : Vec Ideal S1x4x2048x16x128 .f32 :=
  broadcastInDim S1x4x2048x16x128 ![1, 2, 3, 4] bcast_S4x2048x16x128_S1x4x2048x16x128_1_2_3_4 (shapeCast _ (shapeCast _ (transpose S4x4x128x4x2048 [0, 1, 3, 2, 4] (shapeCast _ x shapeCasts_S4x2048x2048_S4x4x4x128x2048) transposes_S4x4x4x128x2048_S4x4x128x4x2048_0_1_3_2_4) shapeCasts_S4x4x128x4x2048_S4x2048x2048) shapeCasts_S4x2048x2048_S4x2048x16x128)
def ordered16 (x : Vec Ideal S4x2048x2048 .f32) : Vec Ideal S1x4x2048x16x128 .f32 :=
  broadcastInDim S1x4x2048x16x128 ![1, 2, 3, 4] bcast_S4x2048x16x128_S1x4x2048x16x128_1_2_3_4 (shapeCast _ (shapeCast _ (transpose S4x4x32x16x2048 [0, 1, 3, 2, 4] (shapeCast _ x shapeCasts_S4x2048x2048_S4x4x16x32x2048) transposes_S4x4x16x32x2048_S4x4x32x16x2048_0_1_3_2_4) shapeCasts_S4x4x32x16x2048_S4x2048x2048) shapeCasts_S4x2048x2048_S4x2048x16x128)

/-- A lane of a head among a group's columns. -/
def lane (h : Fin 16) (l : Fin 128) : Fin 2048 := ⟨h.val * 128 + l.val, by have := h.isLt; have := l.isLt; omega⟩

theorem ordered1_at (x : Vec Ideal S4x2048x2048 .f32) (a : Fin 1) (b : Fin 4) (t : Fin 2048) (h : Fin 16) (l : Fin 128) :
    ordered1 x (ix5 a b t h l) = x (ix3 b (lies 1 t) (lane h l)) := by
  have e : lies 1 t = t := Fin.ext (by
    have := t.isLt
    show (t.val / 512 * 512 + t.val % 512 % 1 * (512 / 1) + t.val % 512 / 1) % 2048 = t.val; omega)
  rw [e]
  unfold ordered1
  pointwise
  rfl

theorem ordered4_at (x : Vec Ideal S4x2048x2048 .f32) (a : Fin 1) (b : Fin 4) (t : Fin 2048) (h : Fin 16) (l : Fin 128) :
    ordered4 x (ix5 a b t h l) = x (ix3 b (lies 4 t) (lane h l)) := by
  have e : (lies 4 t).val = t.val / 512 * 512 + t.val % 4 * 128 + t.val / 4 % 128 := by
    have := t.isLt
    have h1 : t.val % 512 % 4 = t.val % 4 := by omega
    have h2 : t.val % 512 / 4 = t.val / 4 % 128 := by omega
    show (t.val / 512 * 512 + t.val % 512 % 4 * (512 / 4) + t.val % 512 / 4) % 2048 = _
    rw [h1, h2]; omega
  unfold ordered4
  pointwise
  exact congrArg x (congrArg (fun r => ix3 b r (lane h l)) (Fin.ext e.symm))

theorem ordered16_at (x : Vec Ideal S4x2048x2048 .f32) (a : Fin 1) (b : Fin 4) (t : Fin 2048) (h : Fin 16) (l : Fin 128) :
    ordered16 x (ix5 a b t h l) = x (ix3 b (lies 16 t) (lane h l)) := by
  have e : (lies 16 t).val = t.val / 512 * 512 + t.val % 16 * 32 + t.val / 16 % 32 := by
    have := t.isLt
    have h1 : t.val % 512 % 16 = t.val % 16 := by omega
    have h2 : t.val % 512 / 16 = t.val / 16 % 32 := by omega
    show (t.val / 512 * 512 + t.val % 512 % 16 * (512 / 16) + t.val % 512 / 16) % 2048 = _
    rw [h1, h2]; omega
  unfold ordered16
  pointwise
  exact congrArg x (congrArg (fun r => ix3 b r (lane h l)) (Fin.ext e.symm))

/-- The three groups stacked. -/
def stacked (x y z : Vec Ideal S4x2048x2048 .f32) : Vec Ideal S3x4x2048x16x128 .f32 :=
  concatenate S3x4x2048x16x128 0 [⟨S1x4x2048x16x128, ordered1 x⟩, ⟨S1x4x2048x16x128, ordered4 y⟩, ⟨S1x4x2048x16x128, ordered16 z⟩] concatenates_S1x4x2048x16x128_S1x4x2048x16x128_S1x4x2048x16x128_S3x4x2048x16x128_d0

/-- Some columns of the projection. -/
def cut (X : Vec Ideal S4x2048x20480 .f32) (o : ℕ) (ho : S4x2048x20480.Slices ![0, 0, o] S4x2048x2048) : Vec Ideal S4x2048x2048 .f32 :=
  extractStridedSlice S4x2048x2048 ![0, 0, o] X ho

/-- The parts of a group. -/
def partOf (g : Fin 3) (i : Fin 3) : Fin 10 := ⟨3 * g.val + i.val, by have := g.isLt; have := i.isLt; omega⟩

theorem cut_at (X : Vec Ideal S4x2048x20480 .f32) (k : Fin 10) (o : ℕ) (hk : o = k.val * 2048) (ho : S4x2048x20480.Slices ![0, 0, o] S4x2048x2048)
    (b : Fin 4) (t : Fin 2048) (h : Fin 16) (l : Fin 128) :
    cut X o ho (ix3 b t (lane h l)) = X (ix3 b t (column k h l)) := by
  subst hk
  unfold cut
  pointwise
  refine congrArg X (congrArg (ix3 b t) (Fin.ext ?_))
  show k.val * 2048 + (h.val * 128 + l.val) = (k.val * 16 + h.val) * 128 + l.val
  omega

/-- A stack of the same part of each group, at a position of a head. -/
theorem stacked_at (X : Vec Ideal S4x2048x20480 .f32) (i : Fin 3) (o0 o1 o2 : ℕ) (h0 : o0 = i.val * 2048) (h1 : o1 = (3 + i.val) * 2048) (h2 : o2 = (6 + i.val) * 2048)
    (s0 : S4x2048x20480.Slices ![0, 0, o0] S4x2048x2048) (s1 : S4x2048x20480.Slices ![0, 0, o1] S4x2048x2048) (s2 : S4x2048x20480.Slices ![0, 0, o2] S4x2048x2048)
    (hX : ∀ j, X j ≠ (⊥ : EReal) ∧ X j ≠ (⊤ : EReal)) (g : Fin 3) (b : Fin 4) (t : Fin 2048) (h : Fin 16) (l : Fin 128) :
    stacked (cut X o0 s0) (cut X o1 s1) (cut X o2 s2) (ix5 g b t h l) = (part (fun b a l => X (ix3 b a l)) b h (partOf g i) t l : EReal) := by
  have real : ∀ (k : Fin 10) (d : ℕ), d = dilation k → X (ix3 b (lies d t) (column k h l)) = (part (fun b a l => X (ix3 b a l)) b h k t l : EReal) :=
    fun k d hd => hd ▸ (EReal.coe_toReal (hX _).2 (hX _).1).symm
  unfold stacked
  fin_cases g
  · pointwise
    rw [ordered1_at, cut_at X (partOf 0 i) o0 (by rw [h0]; show i.val * 2048 = (3 * 0 + i.val) * 2048; omega)]
    exact real _ _ (by fin_cases i <;> rfl)
  · pointwise
    rw [ordered4_at, cut_at X (partOf 1 i) o1 h1]
    exact real _ _ (by fin_cases i <;> rfl)
  · pointwise
    rw [ordered16_at, cut_at X (partOf 2 i) o2 h2]
    exact real _ _ (by fin_cases i <;> rfl)

end Cert.ReferenceIdeal.Value

end
-- ==== Proof.ReferenceScores.lean ====
/-
  The reference's scores: a key in a query's window scores their product over the square root of 128 less the slope times the
  distance, any other key minus infinity.
-/
module

public import proofs.«01_k».proof.Proof.DilatedStack
public import Idealize.ShloMosaic.Lib.WordCmp

@[expose] public section
set_option maxRecDepth 16384

noncomputable section

namespace Cert.ReferenceIdeal.Value
open Cert.ReferenceIdeal Cert.ReferenceIdeal.Gen Cert.Dilated Idealize.ShloMosaic Idealize.ShloMosaic.TcCoe Idealize.SL.Sem

theorem distance_int (t t' : Fin 2048) : (BitVec.ofNat 32 t.val - BitVec.ofNat 32 t'.val).toInt = (t.val : ℤ) - t'.val := by
  have h : ∀ n : ℕ, n < 2048 → (BitVec.ofNat 32 n).toInt = n := fun n hn => by
    rw [BitVec.toInt_eq_toNat_cond, BitVec.toNat_ofNat]; split_ifs <;> omega
  have h1 := t.isLt
  have h2 := t'.isLt
  simp only [BitVec.toInt_sub, h _ h1, h _ h2, Int.bmod]
  norm_num
  omega

theorem andi_ofBool (a b : Bool) : IntOp.andi (BitVec.ofBool a) (BitVec.ofBool b) = BitVec.ofBool (a && b) := by
  cases a <;> cases b <;> rfl

open Classical in
/-- The reference's test of a key is membership in the window. -/
theorem seen_word (t t' : Fin 2048) (d : ℕ) (hd : 0 < d) (hd' : d ≤ 16) :
    IntOp.andi (IntOp.andi (IntOp.cmpi .sge (BitVec.ofNat 32 t.val - BitVec.ofNat 32 t'.val) 0#32)
      (IntOp.cmpi .sle (BitVec.ofNat 32 t.val - BitVec.ofNat 32 t'.val) (BitVec.ofNat 32 (128 * d))))
      (IntOp.cmpi .eq (IntOp.remsi .host (BitVec.ofNat 32 t.val - BitVec.ofNat 32 t'.val) (BitVec.ofNat 32 d)) 0#32)
      = BitVec.ofBool (decide (Sees d t t')) := by
  have hi := distance_int t t'
  generalize BitVec.ofNat 32 t.val - BitVec.ofNat 32 t'.val = x at hi ⊢
  have hw : (BitVec.ofNat 32 (128 * d)).toInt = 128 * d := by
    rw [BitVec.toInt_eq_toNat_cond, BitVec.toNat_ofNat]; split_ifs <;> omega
  have h0 : (0#32 : BitVec 32).toInt = 0 := rfl
  rw [WordCmp.cmpi_sge_eq, WordCmp.cmpi_sle_eq, WordCmp.cmpi_eq_eq, andi_ofBool, andi_ofBool, hi, hw, h0]
  congr 1
  have h1 := t.isLt
  have h2 := t'.isLt
  by_cases hle : t'.val ≤ t.val
  · have hx : x.toNat = t.val - t'.val := by
      rw [BitVec.toInt_eq_toNat_cond] at hi
      have := x.isLt
      split_ifs at hi <;> omega
    have hr : (IntOp.remsi .host x (BitVec.ofNat 32 d) = 0#32) = (d ∣ t.val - t'.val) := by
      rw [IntOp.remsi_eq_zero_iff .host (by omega) d hd (by omega), hx]
    have hs : ((t.val : ℤ) - t'.val ≤ 128 * d) = (t.val - t'.val ≤ 128 * d) := by apply propext; omega
    have hp : (0 ≤ (t.val : ℤ) - t'.val) = True := by apply propext; simp; omega
    rw [Bool.eq_iff_iff]
    simp [Sees, hr, hs, hp, hle, and_assoc]
  · have hp : ¬ (0 ≤ (t.val : ℤ) - t'.val) := by omega
    have hn : ¬ Sees d t t' := fun h => hle h.1
    rw [decide_eq_false hp, decide_eq_false hn]; rfl

variable (V0 : Valuation τ sig (Elt Ideal))

/-- The slopes and the projection's rows. -/
abbrev slopes : Vec Ideal S16 .f32 := V0 (Proc.devRef .tc main_arg0)
abbrev proj : Vec Ideal S4x2048x20480 .f32 := V0 (Proc.devRef .tc main_arg1)

/-- The distances as words. -/
theorem dist_at (t t' : Fin 2048) : (res_main_v70 (F := Ideal) V0 : IVec S2048x2048 32) (ix2 t t') = BitVec.ofNat 32 t.val - BitVec.ofNat 32 t'.val := by
  unfold res_main_v70
  pointwise
  rfl

/-- The dilation of a group. -/
def spread (g : Fin 3) : ℕ := ![1, 4, 16] g

theorem bits_128 : Ideal.ofBits .f32 0x43000000#32 = ((128 : ℝ) : EReal) := by
  simp [Ideal.ofBits, Ideal.ieee, -EReal.coe_mul]; norm_num

theorem scale_eq : Ideal.div 1 (Ideal.sqrt (Ideal.ofBits .f32 0x43000000#32)) = ((scale : ℝ) : EReal) := by
  have h : Real.sqrt 128 ≠ 0 := (Real.sqrt_pos.mpr (by norm_num)).ne'
  rw [bits_128, Ideal.sqrt_coe, if_neg (by norm_num), ← EReal.coe_one, div_real 1 h, one_div]; rfl

section
variable (S : Vec Ideal S16 .f32) (q k : Vec Ideal S3x4x2048x16x128 .f32) (w : IVec S2048x2048 32)

/-- The scores before the test. -/
def raw : Vec Ideal S3x4x16x2048x2048 .f32 :=
  addf (mulf (Host.dotGeneral (F := Ideal) (φ₁ := .f32) (φ₂ := .f32) dot_S3x4x2048x16x128_S3x4x2048x16x128_S3x4x16x2048x2048_4_4_2_2_013_013 none q k)
      (broadcastInDim S3x4x16x2048x2048 ![] bcast_S_S3x4x16x2048x2048 (Host.divf (constant S_ .f32 0x3F800000#32) (Host.sqrt (constant S_ .f32 0x43000000#32)))))
    (broadcastInDim S3x4x16x2048x2048 ![0, 1, 2, 3, 4] bcast_S1x1x16x2048x2048_S3x4x16x2048x2048_0_1_2_3_4 (broadcastInDim S1x1x16x2048x2048 ![2, 3, 4] bcast_S16x2048x2048_S1x1x16x2048x2048_2_3_4
      (mulf (broadcastInDim S16x2048x2048 ![0, 1, 2] bcast_S16x1x1_S16x2048x2048_0_1_2 (Host.negf (broadcastInDim S16x1x1 ![0] bcast_S16_S16x1x1_0 S)))
        (broadcastInDim S16x2048x2048 ![0, 1, 2] bcast_S1x2048x2048_S16x2048x2048_0_1_2 (broadcastInDim S1x2048x2048 ![1, 2] bcast_S2048x2048_S1x2048x2048_1_2 (sitofp .f32 w))))))

theorem raw_at (g : Fin 3) (b : Fin 4) (h : Fin 16) (t t' : Fin 2048) :
    raw S q k w (ix5 g b h t t') = ((∑ l : Fin 128, q (ix5 g b t h l) * k (ix5 g b t' h l)) * Ideal.div 1 (Ideal.sqrt (Ideal.ofBits .f32 0x43000000#32))
      + -S (ix1 h) * FloatOps.sitofp (F := Ideal) .f32 (w (ix2 t t')) : EReal) := by
  unfold raw
  pointwise
end

theorem v99_eq : (res_main_v99 (F := Ideal) V0 : Vec Ideal S3x4x16x2048x2048 .f32) = raw (slopes V0)
      (stacked (cut (proj V0) 0 slices_S4x2048x20480_S4x2048x2048_0_0_0) (cut (proj V0) 6144 slices_S4x2048x20480_S4x2048x2048_0_0_6144) (cut (proj V0) 12288 slices_S4x2048x20480_S4x2048x2048_0_0_12288))
      (stacked (cut (proj V0) 2048 slices_S4x2048x20480_S4x2048x2048_0_0_2048) (cut (proj V0) 8192 slices_S4x2048x20480_S4x2048x2048_0_0_8192) (cut (proj V0) 14336 slices_S4x2048x20480_S4x2048x2048_0_0_14336))
      (res_main_v70 (F := Ideal) V0) := rfl

section
variable (hX : ∀ i, proj V0 i ≠ (⊥ : EReal) ∧ proj V0 i ≠ (⊤ : EReal)) (g : Fin 3) (b : Fin 4) (h : Fin 16) (s : ℝ) (hs : slopes V0 (ix1 h) = (s : EReal))

/-- A part of a group at a head, in the order of positions. -/
abbrev partAt (i : Fin 3) : Fin 2048 → Fin 128 → ℝ := part (fun b a l => proj V0 (ix3 b a l)) b h (partOf g i)

include hX hs

theorem v99_at (t t' : Fin 2048) :
    (res_main_v99 (F := Ideal) V0 : Vec Ideal S3x4x16x2048x2048 .f32) (ix5 g b h t t') = (logit s (partAt V0 g b h 0) (partAt V0 g b h 1) t t' : EReal) := by
  rw [v99_eq, raw_at, scale_eq, dist_at, hs]
  have hd : FloatOps.sitofp (F := Ideal) .f32 (BitVec.ofNat 32 t.val - BitVec.ofNat 32 t'.val) = (((t.val : ℝ) - t'.val : ℝ) : EReal) := by
    show (((BitVec.ofNat 32 t.val - BitVec.ofNat 32 t'.val).toInt : ℝ) : EReal) = _
    rw [distance_int]; push_cast; rfl
  rw [hd]
  simp only [stacked_at (proj V0) 0 0 6144 12288 rfl rfl rfl _ _ _ hX, stacked_at (proj V0) 1 2048 8192 14336 rfl rfl rfl _ _ _ hX, ← EReal.coe_mul, ← coe_sum,
    ← EReal.coe_neg, ← EReal.coe_add]
  refine congrArg _ ?_
  unfold logit
  ring

theorem v100_at (t t' : Fin 2048) :
    (res_main_v100 (F := Ideal) V0 : Vec Ideal S3x4x16x2048x2048 .f32) (ix5 g b h t t') = score (spread g) s (partAt V0 g b h 0) (partAt V0 g b h 1) t t' := by
  have hpos : 0 < spread g := by fin_cases g <;> decide
  have hle : spread g ≤ 16 := by fin_cases g <;> decide
  have l0 : lit0 (S3.rowMajor (ix1 g)) = BitVec.ofNat 32 (128 * spread g) := by fin_cases g <;> rfl
  have l1 : lit1 (S3.rowMajor (ix1 g)) = BitVec.ofNat 32 (spread g) := by fin_cases g <;> rfl
  have e : (res_main_v100 (F := Ideal) V0 : Vec Ideal S3x4x16x2048x2048 .f32) (ix5 g b h t t')
      = Scalar.select (IntOp.andi (IntOp.andi (IntOp.cmpi .sge ((res_main_v70 (F := Ideal) V0 : IVec S2048x2048 32) (ix2 t t')) 0#32)
        (IntOp.cmpi .sle ((res_main_v70 (F := Ideal) V0 : IVec S2048x2048 32) (ix2 t t')) (lit0 (S3.rowMajor (ix1 g)))))
        (IntOp.cmpi .eq (IntOp.remsi .host ((res_main_v70 (F := Ideal) V0 : IVec S2048x2048 32) (ix2 t t')) (lit1 (S3.rowMajor (ix1 g)))) 0#32))
        ((res_main_v99 (F := Ideal) V0 : Vec Ideal S3x4x16x2048x2048 .f32) (ix5 g b h t t')) (Ideal.ofBits .f32 0xFF800000#32) := by
    unfold res_main_v100
    pointwise
    rfl
  classical
  rw [e, dist_at, l0, l1, seen_word t t' (spread g) hpos hle, v99_at V0 hX g b h s hs, bits_neg_inf, score]
  by_cases hsee : Sees (spread g) t t' <;> simp [hsee, Scalar.select]
end

end Cert.ReferenceIdeal.Value

end
-- ==== Proof.ReferenceOut.lean ====
/-
  The reference's result: at every batch, position and column the gated attention.
-/
module

public import proofs.«01_k».proof.Proof.ReferenceScores

@[expose] public section
set_option maxRecDepth 16384

noncomputable section

namespace Cert.ReferenceIdeal.Value
open Cert.ReferenceIdeal Cert.ReferenceIdeal.Gen Cert.Dilated Idealize.ShloMosaic Idealize.ShloMosaic.TcCoe Idealize.SL.Sem

/-- The largest entry along the last axis. -/
theorem largest_at (x : Vec Ideal S3x4x16x2048x2048 .f32) (g : Fin 3) (b : Fin 4) (h : Fin 16) (t : Fin 2048) :
    (Host.reduce (FloatOps.maximumf (F := Ideal) (φ := .f32)) x (constant (F := Ideal) S_ .f32 0xFF800000#32) reducesTo_S3x4x16x2048x2048_S3x4x16x2048_d4 h_S_ : Vec Ideal S3x4x16x2048 .f32) (ix4 g b h t)
      = Finset.fold max (⊥ : EReal) (fun t' : Fin 2048 => x (ix5 g b h t t')) Finset.univ := by
  rw [← bits_neg_inf]
  refine (Host.reduce_eq_fold_single (α := EReal) max _ _ _ (by decide : S3x4x16x2048x2048.Reduces [4] S3x4x16x2048) _ _).trans ?_
  refine congrArg (fun f => Finset.fold max _ f Finset.univ) (funext fun t' => congrArg x ?_)
  funext ax
  fin_cases ax <;> rfl

/-- The largest entry along the first axis. -/
theorem topmost_at (x : Vec Ideal S3x4x16x2048 .f32) (b : Fin 4) (h : Fin 16) (t : Fin 2048) :
    (Host.reduce (FloatOps.maximumf (F := Ideal) (φ := .f32)) x (constant (F := Ideal) S_ .f32 0xFF800000#32) reducesTo_S3x4x16x2048_S4x16x2048_d0 h_S_ : Vec Ideal S4x16x2048 .f32) (ix3 b h t)
      = Finset.fold max (⊥ : EReal) (fun g : Fin 3 => x (ix4 g b h t)) Finset.univ := by
  rw [← bits_neg_inf]
  refine (Host.reduce_eq_fold_single (α := EReal) max _ _ _ (by decide : S3x4x16x2048.Reduces [0] S4x16x2048) _ _).trans ?_
  refine congrArg (fun f => Finset.fold max _ f Finset.univ) (funext fun g => congrArg x ?_)
  funext ax
  fin_cases ax <;> rfl

/-- The logarithms of the sums of exponentials, from the entries and their largest. -/
theorem logs_at (x : Vec Ideal S3x4x16x2048x2048 .f32) (y : Vec Ideal S3x4x16x2048 .f32) (g : Fin 3) (b : Fin 4) (h : Fin 16) (t : Fin 2048) :
    (addf (F := Ideal) (φ := .f32) (Host.log (Host.reduceAdd (Host.exp (subf x (broadcastInDim S3x4x16x2048x2048 ![0, 1, 2, 3, 4] bcast_S3x4x16x2048x1_S3x4x16x2048x2048_0_1_2_3_4 (broadcastInDim S3x4x16x2048x1 ![0, 1, 2, 3] bcast_S3x4x16x2048_S3x4x16x2048x1_0_1_2_3 y)))) (constant S_ .f32 0x00000000#32) reducesTo_S3x4x16x2048x2048_S3x4x16x2048_d4 h_S_)) y : Vec Ideal S3x4x16x2048 .f32) (ix4 g b h t)
      = (Ideal.log (∑ t' : Fin 2048, Ideal.exp (x (ix5 g b h t t') - y (ix4 g b h t))) + y (ix4 g b h t) : EReal) := by
  pointwise

/-- The exponentials of the logarithms less the largest over the groups. -/
theorem shares_at (y : Vec Ideal S3x4x16x2048 .f32) (z : Vec Ideal S4x16x2048 .f32) (g : Fin 3) (b : Fin 4) (h : Fin 16) (t : Fin 2048) :
    (Host.exp (F := Ideal) (φ := .f32) (subf y (broadcastInDim S3x4x16x2048 ![0, 1, 2, 3] bcast_S1x4x16x2048_S3x4x16x2048_0_1_2_3 (broadcastInDim S1x4x16x2048 ![1, 2, 3] bcast_S4x16x2048_S1x4x16x2048_1_2_3 (maximumf (broadcastInDim S4x16x2048 ![] bcast_S_S4x16x2048 (constant S_ .f32 0xFF800000#32)) z)))) : Vec Ideal S3x4x16x2048 .f32) (ix4 g b h t)
      = (Ideal.exp (y (ix4 g b h t) - max ⊥ (z (ix3 b h t))) : EReal) := by
  rw [← bits_neg_inf]
  pointwise

/-- The weighted sums of the values. -/
theorem sums_at (x : Vec Ideal S3x4x16x2048x2048 .f32) (y : Vec Ideal S3x4x16x2048 .f32) (v : Vec Ideal S3x4x2048x16x128 .f32) (g : Fin 3) (b : Fin 4) (h : Fin 16) (t : Fin 2048) (e : Fin 128) :
    (Host.dotGeneral (F := Ideal) (φ₁ := .f32) (φ₂ := .f32) dot_S3x4x2048x16x128_S3x4x16x2048x2048_S3x4x16x128x2048_2_4_4_3_013_012 none v
      (Host.exp (subf x (broadcastInDim S3x4x16x2048x2048 ![0, 1, 2, 3, 4] bcast_S3x4x16x2048x1_S3x4x16x2048x2048_0_1_2_3_4 (broadcastInDim S3x4x16x2048x1 ![0, 1, 2, 3] bcast_S3x4x16x2048_S3x4x16x2048x1_0_1_2_3 y)))) : Vec Ideal S3x4x16x128x2048 .f32) (ix5 g b h e t)
      = (∑ t' : Fin 2048, v (ix5 g b t' h e) * Ideal.exp (x (ix5 g b h t t') - y (ix4 g b h t)) : EReal) := by
  pointwise

/-- The groups together. -/
theorem together_at (a : Vec Ideal S3x4x16x2048 .f32) (o : Vec Ideal S3x4x16x128x2048 .f32) (b : Fin 4) (t c : Fin 2048) :
    (shapeCast _ (Host.dotGeneral (F := Ideal) (φ₁ := .f32) (φ₂ := .f32) dot_S3x4x16x2048_S3x4x2048x16x128_S4x2048x16x128_0_0_n_4_132_123 none (Host.divf a (broadcastInDim S3x4x16x2048 ![0, 1, 2, 3] bcast_S1x4x16x2048_S3x4x16x2048_0_1_2_3 (broadcastInDim S1x4x16x2048 ![1, 2, 3] bcast_S4x16x2048_S1x4x16x2048_1_2_3 (Host.reduceAdd a (constant S_ .f32 0x00000000#32) reducesTo_S3x4x16x2048_S4x16x2048_d0 h_S_)))) (transpose S3x4x2048x16x128 [0, 1, 4, 2, 3] o transposes_S3x4x16x128x2048_S3x4x2048x16x128_0_1_4_2_3)) shapeCasts_S4x2048x16x128_S4x2048x2048 : Vec Ideal S4x2048x2048 .f32) (ix3 b t c)
      = (∑ g : Fin 3, Ideal.div (a (ix4 g b ⟨c.val / 128, by have := c.isLt; omega⟩ t)) (∑ g' : Fin 3, a (ix4 g' b ⟨c.val / 128, by have := c.isLt; omega⟩ t))
          * o (ix5 g b ⟨c.val / 128, by have := c.isLt; omega⟩ ⟨c.val % 128, Nat.mod_lt _ (by decide)⟩ t) : EReal) := by
  pointwise

/-- The gate. -/
theorem gate_at (x z : Vec Ideal S4x2048x2048 .f32) (i : S4x2048x2048.Idx) :
    (truncf (F := Ideal) (φ := .f32) .bf16 (mulf x (mulf z (Host.divf (broadcastInDim S4x2048x2048 ![] bcast_S_S4x2048x2048 (constant S_ .f32 0x3F800000#32)) (addf (broadcastInDim S4x2048x2048 ![] bcast_S_S4x2048x2048 (constant S_ .f32 0x3F800000#32)) (Host.exp (Host.negf z)))))) bitsLt_bf16_f32 : Vec Ideal S4x2048x2048 .bf16) i
      = (x i * (z i * Ideal.div 1 (1 + Ideal.exp (-z i))) : EReal) := by
  pointwise

variable (V0 : Valuation τ sig (Elt Ideal))

/-- The scores, their largest, the logarithms of the total weights, and the groups' exponentials. -/
abbrev scores : Vec Ideal S3x4x16x2048x2048 .f32 := res_main_v100 (F := Ideal) V0
abbrev largest : Vec Ideal S3x4x16x2048 .f32 := res_main_v101 (F := Ideal) V0
abbrev logs : Vec Ideal S3x4x16x2048 .f32 := res_main_v108 (F := Ideal) V0
abbrev groups : Vec Ideal S3x4x16x2048 .f32 := res_main_v121 (F := Ideal) V0

variable (hX : ∀ i, proj V0 i ≠ (⊥ : EReal) ∧ proj V0 i ≠ (⊤ : EReal))

section
variable (b : Fin 4) (h : Fin 16) (s : ℝ) (hs : slopes V0 (ix1 h) = (s : EReal)) (t : Fin 2048)

/-- The total weight and the weighted sum of the values of a group. -/
abbrev totalAt (g : Fin 3) : ℝ := total (spread g) s (partAt V0 g b h 0) (partAt V0 g b h 1) t
abbrev collectedAt (g : Fin 3) (e : Fin 128) : ℝ := collected (spread g) s (partAt V0 g b h 0) (partAt V0 g b h 1) (partAt V0 g b h 2) t e

include hX hs

theorem v101_real (g : Fin 3) : ∃ M : ℝ, largest V0 (ix4 g b h t) = (M : EReal) := by
  have e : largest V0 (ix4 g b h t) = Finset.fold max (⊥ : EReal) (fun t' : Fin 2048 => score (spread g) s (partAt V0 g b h 0) (partAt V0 g b h 1) t t') Finset.univ :=
    (largest_at (scores V0) g b h t).trans (congrArg (fun f => Finset.fold max (⊥ : EReal) f Finset.univ) (funext fun t' => v100_at V0 hX g b h s hs t t'))
  rw [e]
  refine top_real _ (fun t' => score_ne_top _ _ _ _ _ _) ⟨t, ?_⟩
  rw [score_self]
  exact EReal.coe_ne_bot _

/-- Exponentials of scores less a real number add up to the weights, but for a factor. -/
theorem exps (g : Fin 3) (M : ℝ) (f : Fin 2048 → ℝ) :
    (∑ t' : Fin 2048, (f t' : EReal) * Ideal.exp (scores V0 (ix5 g b h t t') - (M : EReal)))
      = ((Real.exp (-M) * ∑ t', weight (spread g) s (partAt V0 g b h 0) (partAt V0 g b h 1) t t' * f t' : ℝ) : EReal) := by
  rw [Finset.mul_sum, coe_sum]
  refine Finset.sum_congr (M := EReal) rfl fun t' _ => ?_
  have e : scores V0 (ix5 g b h t t') = score (spread g) s (partAt V0 g b h 0) (partAt V0 g b h 1) t t' := v100_at V0 hX g b h s hs t t'
  rw [e, exp_shift _ (score_ne_top _ _ _ _ _ _) M, ← EReal.coe_mul, weight]
  refine congrArg _ ?_
  ring

theorem v108_at (g : Fin 3) : logs V0 (ix4 g b h t) = ((Real.log (totalAt V0 b h s t g) : ℝ) : EReal) := by
  unfold logs res_main_v108
  obtain ⟨M, hM⟩ := v101_real V0 hX b h s hs t g
  have he := exps V0 hX b h s hs t g M (fun _ => 1)
  simp only [EReal.coe_one, one_mul, mul_one] at he
  have hp : 0 < totalAt V0 b h s t g := total_pos _ _ _ _ _
  refine (logs_at _ _ g b h t).trans ?_
  rw [show res_main_v101 V0 (ix4 g b h t) = (M : EReal) from hM]
  refine (congrArg (fun x : EReal => Ideal.log x + (M : EReal)) he).trans ?_
  show Ideal.log ((Real.exp (-M) * totalAt V0 b h s t g : ℝ) : EReal) + _ = _
  rw [log_real (mul_pos (Real.exp_pos _) hp), ← EReal.coe_add, Real.log_mul (Real.exp_pos _).ne' hp.ne', Real.log_exp]
  refine congrArg _ ?_
  ring

theorem v121_at : ∃ M : ℝ, ∀ g : Fin 3, groups V0 (ix4 g b h t) = ((Real.exp (-M) * totalAt V0 b h s t g : ℝ) : EReal) := by
  obtain ⟨M, hM⟩ := top_real (fun g : Fin 3 => ((Real.log (totalAt V0 b h s t g) : ℝ) : EReal)) (fun g => EReal.coe_ne_top _) ⟨0, EReal.coe_ne_bot _⟩
  refine ⟨M, fun g => ?_⟩
  have hp : 0 < totalAt V0 b h s t g := total_pos _ _ _ _ _
  unfold groups res_main_v121
  refine (shares_at _ _ g b h t).trans ?_
  rw [topmost_at]
  simp only [v108_at V0 hX b h s hs t]
  rw [hM, bot_sup_eq, exp_shift _ (EReal.coe_ne_top _), mass_real, Real.exp_log hp]

theorem mixed (g : Fin 3) (e : Fin 128) :
    (∑ t' : Fin 2048, ((partAt V0 g b h 2 t' e : ℝ) : EReal) * Ideal.exp (scores V0 (ix5 g b h t t')
      - logs V0 (ix4 g b h t))) = ((collectedAt V0 b h s t g e / totalAt V0 b h s t g : ℝ) : EReal) := by
  have hp : 0 < totalAt V0 b h s t g := total_pos _ _ _ _ _
  rw [v108_at V0 hX b h s hs t, exps V0 hX b h s hs t g _ (fun t' => partAt V0 g b h 2 t' e), Real.exp_neg, Real.exp_log hp]
  refine congrArg _ ?_
  show _ * collectedAt V0 b h s t g e = _
  field_simp

omit hX hs in
/-- Shares of the totals times the groups' averages are the groups' sums over the sum of the totals. -/
theorem shares_real (c : ℝ) (hc : 0 < c) (T C : Fin 3 → ℝ) (hT : ∀ g, 0 < T g) :
    (∑ g : Fin 3, Ideal.div ((c * T g : ℝ) : EReal) (∑ g' : Fin 3, ((c * T g' : ℝ) : EReal)) * ((C g / T g : ℝ) : EReal))
      = (((C 0 + C 1 + C 2) / (T 0 + T 1 + T 2) : ℝ) : EReal) := by
  have h0 := hT 0
  have h1 := hT 1
  have h2 := hT 2
  have hsum : 0 < T 0 + T 1 + T 2 := by positivity
  rw [← coe_sum]
  have hz : (∑ g' : Fin 3, c * T g') ≠ 0 := by
    rw [← Finset.mul_sum, Fin.sum_univ_three]; positivity
  simp only [div_real _ hz, ← EReal.coe_mul]
  rw [← coe_sum]
  refine congrArg _ ?_
  rw [← Finset.mul_sum, Fin.sum_univ_three, Fin.sum_univ_three]
  field_simp
end

omit hX in
theorem silu_neg (z : ℝ) : ((z : EReal) * Ideal.div 1 (1 + Ideal.exp (-(z : EReal)))) = (silu z : EReal) := by
  have hp : (1 + Real.exp (-z)) ≠ 0 := (add_pos one_pos (Real.exp_pos _)).ne'
  rw [← EReal.coe_neg, Ideal.exp_coe, ← EReal.coe_one, ← EReal.coe_add, div_real 1 hp, ← EReal.coe_mul]
  refine congrArg _ ?_
  rw [silu]; ring

/-- The reference's result. -/
def result : Vec Ideal S4x2048x2048 .bf16 :=
  fun i => (gated (fun h => slopes V0 (ix1 h)) (fun b a l => proj V0 (ix3 b a l)) (i 0) (i 1) (i 2) : EReal)

variable (hS : ∀ h, slopes V0 h ≠ (⊥ : EReal) ∧ slopes V0 h ≠ (⊤ : EReal))

include hX hS

theorem result_at (b : Fin 4) (t c : Fin 2048) : (val3 (F := Ideal) V0 (Proc.devRef .tc main_v130) : Vec Ideal S4x2048x2048 .bf16) (ix3 b t c) = result V0 (ix3 b t c) := by
  have e : (val3 (F := Ideal) V0 (Proc.devRef .tc main_v130) : Vec Ideal S4x2048x2048 .bf16)
      = truncf .bf16 (mulf (shapeCast _ (Host.dotGeneral (F := Ideal) (φ₁ := .f32) (φ₂ := .f32) dot_S3x4x16x2048_S3x4x2048x16x128_S4x2048x16x128_0_0_n_4_132_123 none (Host.divf (res_main_v121 (F := Ideal) V0) (broadcastInDim S3x4x16x2048 ![0, 1, 2, 3] bcast_S1x4x16x2048_S3x4x16x2048_0_1_2_3 (broadcastInDim S1x4x16x2048 ![1, 2, 3] bcast_S4x16x2048_S1x4x16x2048_1_2_3 (Host.reduceAdd (res_main_v121 (F := Ideal) V0) (constant S_ .f32 0x00000000#32) reducesTo_S3x4x16x2048_S4x16x2048_d0 h_S_))))
        (transpose S3x4x2048x16x128 [0, 1, 4, 2, 3] (Host.dotGeneral (F := Ideal) (φ₁ := .f32) (φ₂ := .f32) dot_S3x4x2048x16x128_S3x4x16x2048x2048_S3x4x16x128x2048_2_4_4_3_013_012 none
          (stacked (cut (proj V0) 4096 slices_S4x2048x20480_S4x2048x2048_0_0_4096) (cut (proj V0) 10240 slices_S4x2048x20480_S4x2048x2048_0_0_10240) (cut (proj V0) 16384 slices_S4x2048x20480_S4x2048x2048_0_0_16384))
          (Host.exp (subf (res_main_v100 (F := Ideal) V0) (broadcastInDim S3x4x16x2048x2048 ![0, 1, 2, 3, 4] bcast_S3x4x16x2048x1_S3x4x16x2048x2048_0_1_2_3_4 (broadcastInDim S3x4x16x2048x1 ![0, 1, 2, 3] bcast_S3x4x16x2048_S3x4x16x2048x1_0_1_2_3 (res_main_v108 (F := Ideal) V0))))))
        transposes_S3x4x16x128x2048_S3x4x2048x16x128_0_1_4_2_3)) shapeCasts_S4x2048x16x128_S4x2048x2048)
        (mulf (cut (proj V0) 18432 slices_S4x2048x20480_S4x2048x2048_0_0_18432) (Host.divf (broadcastInDim S4x2048x2048 ![] bcast_S_S4x2048x2048 (constant S_ .f32 0x3F800000#32)) (addf (broadcastInDim S4x2048x2048 ![] bcast_S_S4x2048x2048 (constant S_ .f32 0x3F800000#32)) (Host.exp (Host.negf (cut (proj V0) 18432 slices_S4x2048x20480_S4x2048x2048_0_0_18432))))))) bitsLt_bf16_f32 :=
    (val3_main_v130 V0).trans rfl
  let h : Fin 16 := ⟨c.val / 128, by have := c.isLt; omega⟩
  let l : Fin 128 := ⟨c.val % 128, Nat.mod_lt _ (by decide)⟩
  let s : ℝ := (slopes V0 (ix1 h) : EReal).toReal
  have hs : slopes V0 (ix1 h) = (s : EReal) := (EReal.coe_toReal (hS _).2 (hS _).1).symm
  obtain ⟨M, hM⟩ := v121_at V0 hX b h s hs t
  have hz : cut (proj V0) 18432 slices_S4x2048x20480_S4x2048x2048_0_0_18432 (ix3 b t c) = ((part (fun b a l => proj V0 (ix3 b a l)) b h 9 t l : ℝ) : EReal) := by
    have hc : c = lane h l := Fin.ext (by show c.val = c.val / 128 * 128 + c.val % 128; omega)
    have hl : lies 1 t = t := Fin.ext (by
      have := t.isLt
      show (t.val / 512 * 512 + t.val % 512 % 1 * (512 / 1) + t.val % 512 / 1) % 2048 = t.val; omega)
    rw [hc, cut_at (proj V0) 9 18432 rfl]
    show _ = (((proj V0 (ix3 b (lies 1 t) (column 9 h l)) : EReal).toReal : ℝ) : EReal)
    rw [hl, EReal.coe_toReal (hX _).2 (hX _).1]
  rw [e, gate_at, together_at, hz, silu_neg]
  have main : (∑ g : Fin 3, Ideal.div (groups V0 (ix4 g b h t)) (∑ g' : Fin 3, groups V0 (ix4 g' b h t))
      * (∑ t' : Fin 2048, stacked (cut (proj V0) 4096 slices_S4x2048x20480_S4x2048x2048_0_0_4096) (cut (proj V0) 10240 slices_S4x2048x20480_S4x2048x2048_0_0_10240) (cut (proj V0) 16384 slices_S4x2048x20480_S4x2048x2048_0_0_16384) (ix5 g b t' h l)
        * Ideal.exp (scores V0 (ix5 g b h t t') - logs V0 (ix4 g b h t))) : EReal)
      = (((collectedAt V0 b h s t 0 l + collectedAt V0 b h s t 1 l + collectedAt V0 b h s t 2 l) / (totalAt V0 b h s t 0 + totalAt V0 b h s t 1 + totalAt V0 b h s t 2) : ℝ) : EReal) := by
    simp only [stacked_at (proj V0) 2 4096 10240 16384 rfl rfl rfl _ _ _ hX, mixed V0 hX b h s hs t, hM]
    exact shares_real _ (Real.exp_pos _) _ _ fun g => total_pos _ _ _ _ _
  refine (congrArg (fun x : EReal => x * ((silu (part (fun b a l => proj V0 (ix3 b a l)) b h 9 t l) : ℝ) : EReal))
    ((Finset.sum_congr (M := EReal) rfl fun g _ => congrArg (fun y : EReal => Ideal.div (groups V0 (ix4 g b h t)) (∑ g' : Fin 3, groups V0 (ix4 g' b h t)) * y)
      (sums_at (scores V0) (logs V0) _ g b h t l)).trans main)).trans ?_
  rw [← EReal.coe_mul]
  rfl

/-- The whole result. -/
theorem result_eq : (val3 (F := Ideal) V0 (Proc.devRef .tc main_v130) : Vec Ideal S4x2048x2048 .bf16) = result V0 := by
  funext i
  have e : i = ix3 (i 0) (i 1) (i 2) := by
    funext ax
    fin_cases ax <;> rfl
  rw [e]
  exact result_at V0 hX hS (i 0) (i 1) (i 2)

end Cert.ReferenceIdeal.Value

end
-- ==== Proof.InprojA.lean ====
/- The input projection of the trunk's dilated attention: what the kernel leaves in its result is, at every
   row and column, the plain sum over the model dimension. -/
module

public import proofs.«01_k».proof.Proof.Gen.InprojAIdeal.Value
public import Idealize.ShloMosaic.Lib.Pipeline.ValueKit
public import Idealize.ShloMosaic.Lib.Pipeline.ReadBack

@[expose] public section

set_option maxRecDepth 16384

noncomputable section

namespace Cert.InprojAIdeal.Value

open Cert.InprojAIdeal Cert.InprojAIdeal.Gen Idealize.ShloMosaic Idealize.ShloMosaic.TcCoe Idealize.SL.Sem

variable (m : (ℓ : Loc nD τ sig) → Buf (Elt Ideal) ℓ)

/-- The block of rows that a point reads. -/
abbrev rows (c : Dev nD) (t : Fin cfg0.N) : Vec Ideal S1x1024x2048 .bf16 := iblk m c 0 t

/-- The block of weights that a point reads. -/
abbrev cols (c : Dev nD) (t : Fin cfg0.N) : Vec Ideal S1x2048x1024 .f32 := iblk m c 1 t

/-- The projection's rows. -/
abbrev allRows (c : Dev nD) : Vec Ideal S3x8192x2048 .bf16 := m ((c : Thread nD τ).loc main_arg0)

/-- The projection's weights. -/
abbrev allCols (c : Dev nD) : Vec Ideal S2x2048x20480 .f32 := m ((c : Thread nD τ).loc main_arg1)

/-- A product of a block of rows and a block of columns, at one row and one column. -/
theorem pay_product (x0 : Vec Ideal S1x1024x2048 .bf16) (w : Vec Ideal S2048x1024 .bf16) (y : S1024x1024.Idx) :
    k0_pay2 x0 w y = ∑ k : Fin 2048, x0 (ix3 0 (y 0) k) * w (ix2 k (y 1)) := by
  unfold k0_pay2
  pointwise

/-- The block of weights as the scratch keeps it. -/
theorem pay_weights (x1 : Vec Ideal S1x2048x1024 .f32) (y : S2048x1024.Idx) :
    k0_pay1 x1 y = x1 (ix3 0 (y 0) (y 1)) := by
  unfold k0_pay1
  pointwise

/-- The scratch after any point holds that point's block of weights. -/
theorem scratch_eq (c : Dev nD) : ∀ (n : ℕ) (hn : n < cfg0.N) (y : S2048x1024.Idx),
    (outsAt0 m c n hn).2 y = cols m c ⟨n, hn⟩ (ix3 0 (y 0) (y 1)) := by
  have idx : ∀ t : Fin cfg0.N, ¬ t.val % 8 = 0 → ∀ t' : Fin cfg0.N, t'.val = t.val - 1 → win0_1.index t = win0_1.index t' :=
    (by decide +kernel : ∀ t : Fin grid0.N, ¬ t.val % 8 = 0 → ∀ t' : Fin grid0.N, t'.val = t.val - 1 → win0_1.index t = win0_1.index t')
  intro n
  induction n with
  | zero =>
    intro hn y
    rw [outsAt0_A m c ⟨0, hn⟩ rfl]
    frame_out
    rw [pay_weights]
  | succ n ih =>
    intro hn y
    by_cases h0 : (n + 1) % 8 = 0
    · rw [outsAt0_A m c ⟨n + 1, hn⟩ h0]
      frame_out
      rw [pay_weights]
    · rw [outsAt0_B m c ⟨n + 1, hn⟩ h0]
      refine (ih (Nat.lt_of_succ_lt hn) y).trans ?_
      blk_ext [iblk, V, idx ⟨n + 1, hn⟩ h0 ⟨n, Nat.lt_of_succ_lt hn⟩ rfl]

/-- What any point leaves in its block of the result: its rows times its block of weights. -/
theorem block_eq (c : Dev nD) (t : Fin cfg0.N) (y : S1024x1024.Idx) :
    (outsAt0 m c t.val t.isLt).1 y = ∑ k : Fin 2048, rows m c t (ix3 0 (y 0) k)
      * cols m c t (ix3 0 k (y 1)) := by
  by_cases h0 : t.val % 8 = 0
  · rw [outsAt0_A m c t h0]
    frame_out
    rw [pay_product]
    exact Finset.sum_congr rfl fun k _ => congrArg _ (pay_weights _ _)
  · have hs := scratch_eq m c t.val t.isLt
    rw [outsAt0_B m c t h0] at hs ⊢
    dsimp only [sout0_B_0] at hs
    frame_out
    rw [pay_product, read_unread_whole]
    refine Finset.sum_congr rfl fun k _ => ?_
    rw [hs (ix2 k (y 1))]
    rfl

/-- Which copy of the rows a column of the result takes: the first three bands of 6144 columns one each, the last columns the first. -/
def copyOf (j : Fin 20480) : Fin 3 :=
  ⟨if j.val < 18432 then j.val / 6144 else 0, by split <;> omega⟩

/-- The rows' copy at a column, by its number. -/
theorem row_at (X : Vec Ideal S3x8192x2048 .bf16) (r : Fin 8192) (k : Fin 2048) (j : Fin 20480) (a : Fin 3)
    (h : (if j.val < 18432 then j.val / 6144 else 0) = a.val) : X (ix3 a r k) = X (ix3 (copyOf j) r k) := by
  rw [show copyOf j = a from Fin.ext h]

/-- A column of the weights, by its number. -/
theorem col_at (X : Vec Ideal S2x2048x20480 .f32) (k : Fin 2048) (j j' : Fin 20480) (h : j'.val = j.val) :
    X (ix3 0 k j') = X (ix3 0 k j) := by
  rw [Fin.ext h]

/-- The kernel's result: at every row and column the sum over the model dimension. -/
theorem G2_eq (c : Dev nD) : G2 m c = ((fun i =>
    ∑ k : Fin 2048, allRows m c (ix3 (copyOf (i 1)) (i 0) k)
      * allCols m c (ix3 0 k (i 1))) : Vec Ideal S8192x20480 .bf16) := by
  have idx : ∀ t : Fin cfg0.N, win0_0.index t = ![if t.val / 8 < 18 then t.val / 8 / 6 else 0, t.val % 8, 0] ∧ win0_1.index t = ![0, 0, t.val / 8] :=
    (by decide +kernel : ∀ t : Fin grid0.N, win0_0.index t = ![if t.val / 8 < 18 then t.val / 8 / 6 else 0, t.val % 8, 0] ∧ win0_1.index t = ![0, 0, t.val / 8])
  funext i
  have h0 : (i 0).val < 8192 := (i 0).isLt
  have h1 : (i 1).val < 20480 := (i 1).isLt
  have hp : pt2Of i < cfg0.N := by
    rw [show cfg0.N = 160 from N_0]; dsimp only [pt2Of, run2Of]; omega
  unfold G2
  rw [dif_pos hp, ← outsAt0_sweep m c (pt2Of i) hp]
  refine (block_eq m c ⟨pt2Of i, hp⟩ (loc2Of i)).trans (Finset.sum_congr (M := EReal) rfl fun k _ => ?_)
  obtain ⟨e0, e1⟩ := idx ⟨pt2Of i, hp⟩
  congr 1
  · blk_ext [iblk, V, e0, copyOf]
    all_goals dsimp only [pt2Of, run2Of]
    all_goals (try split_ifs) <;> omega
  · blk_ext [iblk, V, e1]
    dsimp only [pt2Of, run2Of]; omega

end Cert.InprojAIdeal.Value

end
-- ==== Proof.InprojB.lean ====
/- The input projection of the trunk's attention over blocks of keys: what the kernel leaves in its result is, at every
   row and column, the plain sum over the model dimension. -/
module

public import proofs.«01_k».proof.Proof.Gen.InprojBIdeal.Value
public import Idealize.ShloMosaic.Lib.Pipeline.ValueKit
public import Idealize.ShloMosaic.Lib.Pipeline.ReadBack

@[expose] public section

set_option maxRecDepth 16384

noncomputable section

namespace Cert.InprojBIdeal.Value

open Cert.InprojBIdeal Cert.InprojBIdeal.Gen Idealize.ShloMosaic Idealize.ShloMosaic.TcCoe Idealize.SL.Sem

variable (m : (ℓ : Loc nD τ sig) → Buf (Elt Ideal) ℓ)

/-- The block of rows that a point reads. -/
abbrev rows (c : Dev nD) (t : Fin cfg0.N) : Vec Ideal S1x1024x2048 .bf16 := iblk m c 0 t

/-- The block of weights that a point reads. -/
abbrev cols (c : Dev nD) (t : Fin cfg0.N) : Vec Ideal S1x2048x1024 .f32 := iblk m c 1 t

/-- The projection's rows. -/
abbrev allRows (c : Dev nD) : Vec Ideal S1x8192x2048 .bf16 := m ((c : Thread nD τ).loc main_arg0)

/-- The projection's weights. -/
abbrev allCols (c : Dev nD) : Vec Ideal S2x2048x8192 .f32 := m ((c : Thread nD τ).loc main_arg1)

/-- A product of a block of rows and a block of columns, at one row and one column. -/
theorem pay_product (x0 : Vec Ideal S1x1024x2048 .bf16) (w : Vec Ideal S2048x1024 .bf16) (y : S1024x1024.Idx) :
    k0_pay2 x0 w y = ∑ k : Fin 2048, x0 (ix3 0 (y 0) k) * w (ix2 k (y 1)) := by
  unfold k0_pay2
  pointwise

/-- The block of weights as the scratch keeps it. -/
theorem pay_weights (x1 : Vec Ideal S1x2048x1024 .f32) (y : S2048x1024.Idx) :
    k0_pay1 x1 y = x1 (ix3 0 (y 0) (y 1)) := by
  unfold k0_pay1
  pointwise

/-- The scratch after any point holds that point's block of weights. -/
theorem scratch_eq (c : Dev nD) : ∀ (n : ℕ) (hn : n < cfg0.N) (y : S2048x1024.Idx),
    (outsAt0 m c n hn).2 y = cols m c ⟨n, hn⟩ (ix3 0 (y 0) (y 1)) := by
  have idx : ∀ t : Fin cfg0.N, ¬ t.val % 8 = 0 → ∀ t' : Fin cfg0.N, t'.val = t.val - 1 → win0_1.index t = win0_1.index t' :=
    (by decide +kernel : ∀ t : Fin grid0.N, ¬ t.val % 8 = 0 → ∀ t' : Fin grid0.N, t'.val = t.val - 1 → win0_1.index t = win0_1.index t')
  intro n
  induction n with
  | zero =>
    intro hn y
    rw [outsAt0_A m c ⟨0, hn⟩ rfl]
    frame_out
    rw [pay_weights]
  | succ n ih =>
    intro hn y
    by_cases h0 : (n + 1) % 8 = 0
    · rw [outsAt0_A m c ⟨n + 1, hn⟩ h0]
      frame_out
      rw [pay_weights]
    · rw [outsAt0_B m c ⟨n + 1, hn⟩ h0]
      refine (ih (Nat.lt_of_succ_lt hn) y).trans ?_
      blk_ext [iblk, V, idx ⟨n + 1, hn⟩ h0 ⟨n, Nat.lt_of_succ_lt hn⟩ rfl]

/-- What any point leaves in its block of the result: its rows times its block of weights. -/
theorem block_eq (c : Dev nD) (t : Fin cfg0.N) (y : S1024x1024.Idx) :
    (outsAt0 m c t.val t.isLt).1 y = ∑ k : Fin 2048, rows m c t (ix3 0 (y 0) k)
      * cols m c t (ix3 0 k (y 1)) := by
  by_cases h0 : t.val % 8 = 0
  · rw [outsAt0_A m c t h0]
    frame_out
    rw [pay_product]
    exact Finset.sum_congr rfl fun k _ => congrArg _ (pay_weights _ _)
  · have hs := scratch_eq m c t.val t.isLt
    rw [outsAt0_B m c t h0] at hs ⊢
    dsimp only [sout0_B_0] at hs
    frame_out
    rw [pay_product, read_unread_whole]
    refine Finset.sum_congr rfl fun k _ => ?_
    rw [hs (ix2 k (y 1))]
    rfl

/-- The kernel's result: at every row and column the sum over the model dimension. -/
theorem G2_eq (c : Dev nD) : G2 m c = ((fun i =>
    ∑ k : Fin 2048, allRows m c (ix3 0 (i 0) k)
      * allCols m c (ix3 0 k (i 1))) : Vec Ideal S8192x8192 .bf16) := by
  have idx : ∀ t : Fin cfg0.N, win0_0.index t = ![0, t.val % 8, 0] ∧ win0_1.index t = ![0, 0, t.val / 8] :=
    (by decide +kernel : ∀ t : Fin grid0.N, win0_0.index t = ![0, t.val % 8, 0] ∧ win0_1.index t = ![0, 0, t.val / 8])
  funext i
  have h0 : (i 0).val < 8192 := (i 0).isLt
  have h1 : (i 1).val < 8192 := (i 1).isLt
  have hp : pt2Of i < cfg0.N := by
    rw [show cfg0.N = 64 from N_0]; dsimp only [pt2Of, run2Of]; omega
  unfold G2
  rw [dif_pos hp, ← outsAt0_sweep m c (pt2Of i) hp]
  refine (block_eq m c ⟨pt2Of i, hp⟩ (loc2Of i)).trans (Finset.sum_congr (M := EReal) rfl fun k _ => ?_)
  obtain ⟨e0, e1⟩ := idx ⟨pt2Of i, hp⟩
  congr 1
  · blk_ext [iblk, V, e0]
    dsimp only [pt2Of, run2Of]; omega
  · blk_ext [iblk, V, e1]
    dsimp only [pt2Of, run2Of]; omega

end Cert.InprojBIdeal.Value

end
-- ==== Proof.Outproj.lean ====
/- The output projection with its gated residual sum: what the kernel leaves in its result is, at every row and column, the
   residual plus the gate times the plain sum over the branch's width. -/
module

public import proofs.«01_k».proof.Proof.Gen.OutprojIdeal.Value
public import Idealize.ShloMosaic.Lib.Pipeline.ValueKit
public import Idealize.ShloMosaic.Lib.Pipeline.ReadBack

@[expose] public section

set_option maxRecDepth 16384

noncomputable section

namespace Cert.OutprojIdeal.Value

open Cert.OutprojIdeal Cert.OutprojIdeal.Gen Idealize.ShloMosaic Idealize.ShloMosaic.TcCoe Idealize.SL.Sem

variable (m : (ℓ : Loc nD τ sig) → Buf (Elt Ideal) ℓ)

/-- The blocks that a point reads: of the rows, of the weights, of the residual and of the modulation. -/
abbrev rows (c : Dev nD) (t : Fin cfg0.N) : Vec Ideal S1024x2048 .bf16 := iblk m c 0 t
abbrev cols (c : Dev nD) (t : Fin cfg0.N) : Vec Ideal S1x2048x1024 .f32 := iblk m c 1 t
abbrev rest (c : Dev nD) (t : Fin cfg0.N) : Vec Ideal S1024x1024 .f32 := iblk m c 2 t
abbrev gate (c : Dev nD) (t : Fin cfg0.N) : Vec Ideal S1x1x3x1024 .f32 := iblk m c 3 t

/-- The arguments: the rows, the weights, the residual and the modulation. -/
abbrev allRows (c : Dev nD) : Vec Ideal S8192x2048 .bf16 := m ((c : Thread nD τ).loc main_arg0)
abbrev allCols (c : Dev nD) : Vec Ideal S2x2048x2048 .f32 := m ((c : Thread nD τ).loc main_arg1)
abbrev allRest (c : Dev nD) : Vec Ideal S8192x2048 .f32 := m ((c : Thread nD τ).loc main_arg2)
abbrev allGates (c : Dev nD) : Vec Ideal S4x4x3x2048 .f32 := m ((c : Thread nD τ).loc main_arg3)

/-- The gated product of a block of rows and a block of columns added to a block of the residual. -/
theorem pay_sum (x0 : Vec Ideal S1024x2048 .bf16) (w : Vec Ideal S2048x1024 .bf16) (x2 : Vec Ideal S1024x1024 .f32) (g : Vec Ideal S1x1x1x1024 .f32) (y : S1024x1024.Idx) :
    k0_pay2 x0 w x2 g y = (x2 y + g (ix4 0 0 0 (y 1)) * ∑ k : Fin 2048, x0 (ix2 (y 0) k) * w (ix2 k (y 1)) : EReal) := by
  unfold k0_pay2
  pointwise

/-- The block of weights as the scratch keeps it. -/
theorem pay_weights (x1 : Vec Ideal S1x2048x1024 .f32) (y : S2048x1024.Idx) :
    k0_pay1 x1 y = x1 (ix3 0 (y 0) (y 1)) := by
  unfold k0_pay1
  pointwise

/-- The scratch after any point holds that point's block of weights. -/
theorem scratch_eq (c : Dev nD) : ∀ (n : ℕ) (hn : n < cfg0.N) (y : S2048x1024.Idx),
    (outsAt0 m c n hn).2 y = cols m c ⟨n, hn⟩ (ix3 0 (y 0) (y 1)) := by
  have idx : ∀ t : Fin cfg0.N, ¬ t.val % 8 = 0 → ∀ t' : Fin cfg0.N, t'.val = t.val - 1 → win0_1.index t = win0_1.index t' :=
    (by decide +kernel : ∀ t : Fin grid0.N, ¬ t.val % 8 = 0 → ∀ t' : Fin grid0.N, t'.val = t.val - 1 → win0_1.index t = win0_1.index t')
  intro n
  induction n with
  | zero =>
    intro hn y
    rw [outsAt0_A m c ⟨0, hn⟩ rfl]
    frame_out
    rw [pay_weights]
  | succ n ih =>
    intro hn y
    by_cases h0 : (n + 1) % 8 = 0
    · rw [outsAt0_A m c ⟨n + 1, hn⟩ h0]
      frame_out
      rw [pay_weights]
    · rw [outsAt0_B m c ⟨n + 1, hn⟩ h0]
      refine (ih (Nat.lt_of_succ_lt hn) y).trans ?_
      blk_ext [iblk, V, idx ⟨n + 1, hn⟩ h0 ⟨n, Nat.lt_of_succ_lt hn⟩ rfl]

/-- The gate's row of a block of the modulation. -/
theorem gate_at (v : Vec Ideal S1x1x3x1024 .f32) (l : Fin 1024) :
    View.ld v (Rect.unit ![0, 0, 2, 0] ![1, 1, 1, 1024] inb_S1x1x3x1024_S1x1x1x1024_0_0_2_0) (ix4 0 0 0 l) = v (ix4 0 0 2 l) := by
  blk_ext [View.ld]
  · rfl
  · exact (Nat.zero_add _).trans (Nat.one_mul _)

/-- What any point leaves in its block of the result. -/
theorem block_eq (c : Dev nD) (t : Fin cfg0.N) (y : S1024x1024.Idx) :
    (outsAt0 m c t.val t.isLt).1 y = (rest m c t y + gate m c t (ix4 0 0 2 (y 1)) * ∑ k : Fin 2048, rows m c t (ix2 (y 0) k)
      * cols m c t (ix3 0 k (y 1)) : EReal) := by
  by_cases h0 : t.val % 8 = 0
  · rw [outsAt0_A m c t h0]
    frame_out
    rw [pay_sum]
    refine congrArg₂ (fun g s : EReal => rest m c t y + g * s) (gate_at (gate m c t) (y 1)) (Finset.sum_congr (M := EReal) rfl fun k _ => ?_)
    exact congrArg (fun w : EReal => rows m c t (ix2 (y 0) k) * w) (pay_weights _ _)
  · have hs := scratch_eq m c t.val t.isLt
    rw [outsAt0_B m c t h0] at hs ⊢
    dsimp only [sout0_B_0] at hs
    frame_out
    rw [pay_sum, read_unread_whole]
    refine congrArg₂ (fun g s : EReal => rest m c t y + g * s) (gate_at (gate m c t) (y 1)) (Finset.sum_congr (M := EReal) rfl fun k _ => ?_)
    rw [hs (ix2 k (y 1))]
    rfl

/-- The kernel's result. -/
theorem G4_eq (c : Dev nD) : G4 m c = ((fun i =>
    (allRest m c i + allGates m c (ix4 0 ⟨(i 0).val / 2048, by have : (i 0).val < 8192 := (i 0).isLt; omega⟩ 2 (i 1)) * ∑ k : Fin 2048, allRows m c (ix2 (i 0) k)
      * allCols m c (ix3 0 k (i 1)) : EReal)) : Vec Ideal S8192x2048 .f32) := by
  have idx : ∀ t : Fin cfg0.N, win0_0.index t = ![t.val % 8, 0] ∧ win0_1.index t = ![0, 0, t.val / 8] ∧ win0_2.index t = ![t.val % 8, t.val / 8] ∧ win0_3.index t = ![0, t.val % 8 / 2, 0, t.val / 8] :=
    (by decide +kernel : ∀ t : Fin grid0.N, win0_0.index t = ![t.val % 8, 0] ∧ win0_1.index t = ![0, 0, t.val / 8] ∧ win0_2.index t = ![t.val % 8, t.val / 8] ∧ win0_3.index t = ![0, t.val % 8 / 2, 0, t.val / 8])
  funext i
  have h0 : (i 0).val < 8192 := (i 0).isLt
  have h1 : (i 1).val < 2048 := (i 1).isLt
  have hp : pt4Of i < cfg0.N := by
    rw [show cfg0.N = 16 from N_0]; dsimp only [pt4Of, run4Of]; omega
  unfold G4
  rw [dif_pos hp, ← outsAt0_sweep m c (pt4Of i) hp]
  obtain ⟨e0, e1, e2, e3⟩ := idx ⟨pt4Of i, hp⟩
  refine (block_eq m c ⟨pt4Of i, hp⟩ (loc4Of i)).trans (congrArg₂ (fun x y : EReal => x + y) ?_ (congrArg₂ (fun x y : EReal => x * y) ?_ (Finset.sum_congr (M := EReal) rfl fun k _ => congrArg₂ (fun x y : EReal => x * y) ?_ ?_)))
  · blk_ext [iblk, V, e2] <;> dsimp only [pt4Of, run4Of] <;> omega
  · blk_ext [iblk, V, e3] <;> dsimp only [pt4Of, run4Of] <;> omega
  · blk_ext [iblk, V, e0] <;> dsimp only [pt4Of, run4Of] <;> omega
  · blk_ext [iblk, V, e1] <;> dsimp only [pt4Of, run4Of] <;> omega

end Cert.OutprojIdeal.Value

end
-- ==== Proof.NormMath.lean ====
/- A row over the root of its mean square. -/
module

public import Idealize.ShloMosaic.PureOps.Ideal

@[expose] public section

noncomputable section

namespace Cert.Norm

open Idealize.ShloMosaic

/-- A row over the root of its mean square plus a small constant, scaled by a weight per column. -/
def normed (s f : Fin 2048 → EReal) (l : Fin 2048) : EReal :=
  s l * Ideal.rsqrt (Ideal.div (∑ k, s k * s k) (Ideal.ofBits .f32 0x45000000#32) + Ideal.ofBits .f32 0x358637BD#32) * f l

end Cert.Norm

end
-- ==== Proof.Outfinal.lean ====
/- The last output projection with its gated residual sum and the final norm over the model dimension. -/
module

public import proofs.«01_k».proof.Proof.Gen.OutfinalIdeal.Value
public import proofs.«01_k».proof.Proof.NormMath
public import Idealize.ShloMosaic.Lib.Pipeline.ValueKit
public import Idealize.ShloMosaic.Lib.Pipeline.ReadBack

@[expose] public section

set_option maxRecDepth 16384

noncomputable section

namespace Cert.OutfinalIdeal.Value

open Cert.OutfinalIdeal Cert.OutfinalIdeal.Gen Cert.Norm Idealize.ShloMosaic Idealize.ShloMosaic.TcCoe Idealize.SL.Sem

variable (m : (ℓ : Loc nD τ sig) → Buf (Elt Ideal) ℓ)

/-- The blocks that a point reads: of the rows, the weights, the residual, the modulation and the norm's weights. -/
abbrev rows (c : Dev nD) (t : Fin cfg0.N) : Vec Ideal S512x2048 .bf16 := iblk m c 0 t
abbrev cols (c : Dev nD) (t : Fin cfg0.N) : Vec Ideal S1x2048x2048 .f32 := iblk m c 1 t
abbrev rest (c : Dev nD) (t : Fin cfg0.N) : Vec Ideal S512x2048 .f32 := iblk m c 2 t
abbrev gate (c : Dev nD) (t : Fin cfg0.N) : Vec Ideal S1x1x3x2048 .f32 := iblk m c 3 t
abbrev scales (c : Dev nD) (t : Fin cfg0.N) : Vec Ideal S1x2048 .f32 := iblk m c 4 t

/-- The arguments: the rows, the weights, the residual, the modulation and the norm's weights. -/
abbrev allRows (c : Dev nD) : Vec Ideal S8192x2048 .bf16 := m ((c : Thread nD τ).loc main_arg0)
abbrev allCols (c : Dev nD) : Vec Ideal S2x2048x2048 .f32 := m ((c : Thread nD τ).loc main_arg1)
abbrev allRest (c : Dev nD) : Vec Ideal S8192x2048 .f32 := m ((c : Thread nD τ).loc main_arg2)
abbrev allGates (c : Dev nD) : Vec Ideal S4x4x3x2048 .f32 := m ((c : Thread nD τ).loc main_arg3)
abbrev allScales (c : Dev nD) : Vec Ideal S2048 .f32 := m ((c : Thread nD τ).loc main_arg4)

/-- The norm's weights as a row, which the kernel is entered with. -/
theorem row_eq (c : Dev nD) : V m c main_v0 = (shapeCast S1x2048 (allScales m c) shapeCasts_S2048_S1x2048 : Vec Ideal S1x2048 .f32) := by
  show StableHlo.after hostOps0 _ (Proc.devRef .tc main_v0) = _
  after_results
  rfl

/-- That row at a column. -/
theorem row_at (c : Dev nD) (l : Fin 2048) : (V m c main_v0 : Vec Ideal S1x2048 .f32) (ix2 0 l) = allScales m c (ix1 l) := by
  rw [row_eq]
  pointwise

/-- The norm of the gated product of a block of rows and the weights added to a block of the residual. -/
theorem pay_norm (x0 : Vec Ideal S512x2048 .bf16) (w : Vec Ideal S2048x2048 .bf16) (x2 : Vec Ideal S512x2048 .f32) (g : Vec Ideal S1x1x1x2048 .f32) (f : Vec Ideal S1x2048 .f32) (y : S512x2048.Idx) :
    k0_pay2 x0 w x2 g f y = normed (fun l => (x2 (ix2 (y 0) l) + g (ix4 0 0 0 l) * ∑ k : Fin 2048, x0 (ix2 (y 0) k) * w (ix2 k l) : EReal)) (fun l => f (ix2 0 l)) (y 1) := by
  unfold k0_pay2 normed
  pointwise

/-- The weights as the scratch keeps them. -/
theorem pay_weights (x1 : Vec Ideal S1x2048x2048 .f32) (y : S2048x2048.Idx) :
    k0_pay1 x1 y = x1 (ix3 0 (y 0) (y 1)) := by
  unfold k0_pay1
  pointwise

/-- The scratch after any point holds the weights. -/
theorem scratch_eq (c : Dev nD) : ∀ (n : ℕ) (hn : n < cfg0.N) (y : S2048x2048.Idx),
    (outsAt0 m c n hn).2 y = cols m c ⟨n, hn⟩ (ix3 0 (y 0) (y 1)) := by
  have idx : ∀ t t' : Fin cfg0.N, win0_1.index t = win0_1.index t' :=
    (by decide +kernel : ∀ t t' : Fin grid0.N, win0_1.index t = win0_1.index t')
  intro n
  induction n with
  | zero =>
    intro hn y
    rw [outsAt0_A m c ⟨0, hn⟩ rfl]
    frame_out
    rw [pay_weights]
  | succ n ih =>
    intro hn y
    have h0 : ¬ (n + 1) % 16 = 0 := by
      have := hn.trans_eq (show cfg0.N = 16 from N_0); omega
    rw [outsAt0_B m c ⟨n + 1, hn⟩ h0]
    refine (ih (Nat.lt_of_succ_lt hn) y).trans ?_
    blk_ext [iblk, V, idx ⟨n + 1, hn⟩ ⟨n, Nat.lt_of_succ_lt hn⟩]

/-- The gate's row of a block of the modulation. -/
theorem gate_at (v : Vec Ideal S1x1x3x2048 .f32) (l : Fin 2048) :
    View.ld v (Rect.unit ![0, 0, 2, 0] ![1, 1, 1, 2048] inb_S1x1x3x2048_S1x1x1x2048_0_0_2_0) (ix4 0 0 0 l) = v (ix4 0 0 2 l) := by
  blk_ext [View.ld]
  · rfl
  · exact (Nat.zero_add _).trans (Nat.one_mul _)

/-- What any point leaves in its block of the result. -/
theorem block_eq (c : Dev nD) (t : Fin cfg0.N) (y : S512x2048.Idx) :
    (outsAt0 m c t.val t.isLt).1 y = normed (fun l => (rest m c t (ix2 (y 0) l) + gate m c t (ix4 0 0 2 l) * ∑ k : Fin 2048, rows m c t (ix2 (y 0) k)
      * cols m c t (ix3 0 k l) : EReal)) (fun l => scales m c t (ix2 0 l)) (y 1) := by
  by_cases h0 : t.val % 16 = 0
  · rw [outsAt0_A m c t h0]
    frame_out
    rw [pay_norm]
    congr 1
    funext l
    refine congrArg₂ (fun g s : EReal => rest m c t (ix2 (y 0) l) + g * s) (gate_at (gate m c t) l) (Finset.sum_congr (M := EReal) rfl fun k _ => ?_)
    exact congrArg (fun w : EReal => rows m c t (ix2 (y 0) k) * w) (pay_weights _ _)
  · have hs := scratch_eq m c t.val t.isLt
    rw [outsAt0_B m c t h0] at hs ⊢
    dsimp only [sout0_B_0] at hs
    frame_out
    rw [pay_norm, read_unread_whole]
    congr 1
    funext l
    refine congrArg₂ (fun g s : EReal => rest m c t (ix2 (y 0) l) + g * s) (gate_at (gate m c t) l) (Finset.sum_congr (M := EReal) rfl fun k _ => ?_)
    rw [hs (ix2 k l)]
    rfl

/-- The kernel's result. -/
theorem G5_eq (c : Dev nD) : G5 m c = ((fun i =>
    normed (fun l => (allRest m c (ix2 (i 0) l) + allGates m c (ix4 3 ⟨(i 0).val / 2048, by have : (i 0).val < 8192 := (i 0).isLt; omega⟩ 2 l) * ∑ k : Fin 2048, allRows m c (ix2 (i 0) k)
      * allCols m c (ix3 1 k l) : EReal)) (fun l => allScales m c (ix1 l)) (i 1)) : Vec Ideal S8192x2048 .f32) := by
  have idx : ∀ t : Fin cfg0.N, win0_0.index t = ![t.val, 0] ∧ win0_1.index t = ![1, 0, 0] ∧ win0_2.index t = ![t.val, 0] ∧ win0_3.index t = ![3, t.val / 4, 0, 0] ∧ win0_4.index t = ![0, 0] :=
    (by decide +kernel : ∀ t : Fin grid0.N, win0_0.index t = ![t.val, 0] ∧ win0_1.index t = ![1, 0, 0] ∧ win0_2.index t = ![t.val, 0] ∧ win0_3.index t = ![3, t.val / 4, 0, 0] ∧ win0_4.index t = ![0, 0])
  funext i
  have h0 : (i 0).val < 8192 := (i 0).isLt
  have h1 : (i 1).val < 2048 := (i 1).isLt
  have hp : pt5Of i < cfg0.N := by
    rw [show cfg0.N = 16 from N_0]; dsimp only [pt5Of, run5Of]; omega
  unfold G5
  rw [dif_pos hp, ← outsAt0_sweep m c (pt5Of i) hp]
  obtain ⟨e0, e1, e2, e3, e4⟩ := idx ⟨pt5Of i, hp⟩
  have el : loc5Of i 1 = i 1 := Fin.ext (Nat.mod_eq_of_lt h1)
  refine (block_eq m c ⟨pt5Of i, hp⟩ (loc5Of i)).trans ?_
  rw [el]
  refine congrArg₂ (fun s f => normed s f (i 1)) (funext fun l => congrArg₂ (fun x y : EReal => x + y) ?_ (congrArg₂ (fun x y : EReal => x * y) ?_ (Finset.sum_congr (M := EReal) rfl fun k _ => congrArg₂ (fun x y : EReal => x * y) ?_ ?_))) (funext fun l => ?_)
  · blk_ext [iblk, V, e2] <;> dsimp only [pt5Of, run5Of] <;> omega
  · blk_ext [iblk, V, e3] <;> dsimp only [pt5Of, run5Of] <;> omega
  · blk_ext [iblk, V, e0] <;> dsimp only [pt5Of, run5Of] <;> omega
  · blk_ext [iblk, V, e1] <;> dsimp only [pt5Of, run5Of] <;> omega
  · refine Eq.trans ?_ (row_at m c l)
    show (V m c main_v0 : Vec Ideal S1x2048 .f32) ((win0_4.blk ⟨pt5Of i, hp⟩).view.emb (ix2 0 l)) = _
    blk_ext [e4]

end Cert.OutfinalIdeal.Value

end
-- ==== Proof.Modulation.lean ====
/- The modulation of every layer: a row times its logistic, times the layer's weights, plus the layer's offsets. -/
module

public import proofs.«01_k».proof.Proof.Gen.ModulationIdeal.Value
public import Idealize.ShloMosaic.Lib.Pipeline.ValueKit
public import Idealize.ShloMosaic.Lib.Pipeline.ReadBack

@[expose] public section

set_option maxRecDepth 16384

noncomputable section

namespace Cert.ModulationIdeal.Value

open Cert.ModulationIdeal Cert.ModulationIdeal.Gen Idealize.ShloMosaic Idealize.ShloMosaic.TcCoe Idealize.SL.Sem

/-- A number over one plus the exponential of its opposite. -/
def gated (z : EReal) : EReal := Ideal.div z (1 + Ideal.exp (0 - z))

/-- It is the number times its logistic, at the infinities too. -/
theorem gated_eq (z : EReal) : gated z = z * Ideal.div 1 (1 + Ideal.exp (-z)) := by
  have pos : 0 ≤ Ideal.exp (-z) := by
    induction -z using EReal.rec with
    | bot => exact le_rfl
    | coe r => exact EReal.coe_nonneg.mpr (Real.exp_pos r).le
    | top => exact le_top
  have hne : (1 + Ideal.exp (-z) : EReal) ≠ 0 := (lt_of_lt_of_le zero_lt_one (le_add_of_nonneg_right pos)).ne'
  rw [gated, sub_eq_add_neg, zero_add, Ideal.div, if_neg hne, Ideal.div, if_neg hne, one_mul]

variable (m : (ℓ : Loc nD τ sig) → Buf (Elt Ideal) ℓ)

/-- The blocks that a point reads: the rows, and of the weights and the offsets. -/
abbrev rows (c : Dev nD) (t : Fin cfg0.N) : Vec Ideal S16x2048 .f32 := iblk m c 0 t
abbrev cols (c : Dev nD) (t : Fin cfg0.N) : Vec Ideal S1x2048x1536 .f32 := iblk m c 1 t
abbrev offs (c : Dev nD) (t : Fin cfg0.N) : Vec Ideal S1x1x1536 .f32 := iblk m c 2 t

/-- The arguments: the rows, the weights and the offsets. -/
abbrev allRows (c : Dev nD) : Vec Ideal S16x2048 .f32 := m ((c : Thread nD τ).loc main_arg0)
abbrev allCols (c : Dev nD) : Vec Ideal S4x2048x6144 .f32 := m ((c : Thread nD τ).loc main_arg1)
abbrev allOffs (c : Dev nD) : Vec Ideal S4x1x6144 .f32 := m ((c : Thread nD τ).loc main_arg2)

/-- A block of the result from a block of the weights and of the offsets. -/
theorem pay_product (x0 : Vec Ideal S16x2048 .f32) (x1 : Vec Ideal S1x2048x1536 .f32) (x2 : Vec Ideal S1x1x1536 .f32) (y : S1x16x1536.Idx) :
    k0_pay1 x0 x1 x2 y = ((∑ k : Fin 2048, gated (x0 (ix2 (y 1) k)) * x1 (ix3 0 k (y 2))) + x2 (ix3 0 0 (y 2)) : EReal) := by
  unfold k0_pay1 gated
  pointwise

/-- The kernel's result. -/
def G (c : Dev nD) : Vec Ideal S4x16x6144 .f32 := fun i =>
  ((∑ k : Fin 2048, gated (allRows m c (ix2 (i 1) k)) * allCols m c (ix3 (i 0) k (i 2))) + allOffs m c (ix3 (i 0) 0 (i 2)) : EReal)

/-- What the kernel leaves in its result. -/
theorem G_eq (c : Dev nD) : (dats m 0 c).arrAt 3 cfg0.N = G m c := by
  have idx : ∀ t : Fin cfg0.N, win0_0.index t = ![0, 0] ∧ win0_1.index t = ![t.val / 4, 0, t.val % 4] ∧ win0_2.index t = ![t.val / 4, 0, t.val % 4] ∧ win0_3.index t = ![t.val / 4, 0, t.val % 4] :=
    (by decide +kernel : ∀ t : Fin grid0.N, win0_0.index t = ![0, 0] ∧ win0_1.index t = ![t.val / 4, 0, t.val % 4] ∧ win0_2.index t = ![t.val / 4, 0, t.val % 4] ∧ win0_3.index t = ![t.val / 4, 0, t.val % 4])
  refine (dats m 0 c).arrAt_eq_of_covers 3 _ (by decide +kernel) fun t hf y => ?_
  obtain ⟨e0, e1, e2, e3⟩ := idx t
  blk_simp
  rw [after0_3]
  frame_out
  rw [pay_product]
  unfold G
  refine congrArg₂ (fun x y : EReal => x + y) (Finset.sum_congr (M := EReal) rfl fun k _ => congrArg₂ (fun x y : EReal => gated x * y) ?_ ?_) ?_
  · blk_ext [iblk, V, e0, e3]
  · blk_ext [iblk, V, e1, e3]
  · blk_ext [iblk, V, e2, e3]

end Cert.ModulationIdeal.Value

end
-- ==== Proof.Modulate.lean ====
/- The norm of a layer's rows with its modulation: the body stores its block in tiles of 64 rows and 128 columns, each by one
   text at its own offsets. -/
module

public import proofs.«01_k».proof.Proof.Gen.ModulateIdeal.Value
public import proofs.«01_k».proof.Proof.NormMath
public import Idealize.ShloMosaic.Lib.Pipeline.ValueKit
public import Idealize.ShloMosaic.Lib.Pipeline.ReadBack

@[expose] public section

set_option maxRecDepth 16384

noncomputable section

namespace Cert.ModulateIdeal.Value

open Cert.ModulateIdeal Cert.ModulateIdeal.Gen Cert.Norm Idealize.ShloMosaic Idealize.ShloMosaic.TcCoe Idealize.SL.Sem

section tiles
variable {F : FTy → Type} [FloatOps F]

/-- Where a tile's rows of the input, its columns of the norm's weights and of a row of the modulation, and the tile itself lie. -/
def rectX (r : Fin 8) (l : Fin 16) : Rect S512x2048 :=
  Rect.unit (s := S512x2048) ![r * 64, l * 128] S64x128.size (by intro a; fin_cases a <;> simp [S64x128, S512x2048] <;> omega)
def rectW (l : Fin 16) : Rect S1x1x2048 :=
  Rect.unit (s := S1x1x2048) ![0, 0, l * 128] S1x1x128.size (by intro a; fin_cases a <;> simp [S1x1x128, S1x1x2048]; omega)
def rectM (j : Fin 3) (l : Fin 16) : Rect S1x1x3x2048 :=
  Rect.unit (s := S1x1x3x2048) ![0, 0, j, l * 128] S1x1x1x128.size (by intro a; fin_cases a <;> simp [S1x1x1x128, S1x1x3x2048] <;> omega)
def rectO (r : Fin 8) (l : Fin 16) : Rect S1x512x2048 :=
  Rect.unit (s := S1x512x2048) ![0, r * 64, l * 128] S1x64x128.size (by intro a; fin_cases a <;> simp [S1x64x128, S1x512x2048] <;> omega)

theorem rows_fit : ∀ r : Fin 8, S512x1.Slices ![r.val * 64, 0] S64x1 := by decide

/-- A tile from the rows' scales, its rows, its weights and its modulation. -/
def tile (r : Fin 8) (g : FVec F S512x1 .f32) (x : Vec F S64x128 .f32) (w : Vec F S1x1x128 .f32) (s b : Vec F S1x1x1x128 .f32) : FVec F S1x64x128 .bf16 :=
  let gr : FVec F S64x1 .f32 := extractStridedSlice S64x1 ![r.val * 64, 0] g (rows_fit r)
  let n : FVec F S64x128 .f32 := mulf (mulf x (broadcastTo S64x128 gr broadcasts_S64x1_S64x128)) (broadcastTo S64x128 (shapeCast S1x128 w shapeCasts_S1x1x128_S1x128) broadcasts_S1x128_S64x128)
  let k : FVec F S1x128 .f32 := addf (broadcast S1x128 (Scalar.ofBits .f32 0x3F800000#32)) (shapeCast S1x128 s shapeCasts_S1x1x1x128_S1x128)
  shapeCast S1x64x128 (truncf .bf16 (addf (mulf n (broadcastTo S64x128 k broadcasts_S1x128_S64x128)) (broadcastTo S64x128 (shapeCast S1x128 b shapeCasts_S1x1x1x128_S1x128) broadcasts_S1x128_S64x128)) bitsLt_bf16_f32) shapeCasts_S64x128_S1x64x128

/-- The tiles, last first. -/
def all : List (Fin 16 × Fin 8) := [15, 14, 13, 12, 11, 10, 9, 8, 7, 6, 5, 4, 3, 2, 1, 0].flatMap fun l => [7, 6, 5, 4, 3, 2, 1, 0].map fun r => (l, r)

theorem mem_all : ∀ p, p ∈ all := by decide

theorem out_tiles (x0 : Vec F S512x2048 .f32) (x1 : Vec F S1x1x2048 .f32) (x2 : Vec F S1x1x3x2048 .f32) :
    out0_3 x0 x1 x2 = View.canon (all.map fun p => ⟨rectO p.2 p.1, tile p.2 (k0_pay1 (View.ld x0 r0_0)) (View.ld x0 (rectX p.2 p.1)) (View.ld x1 (rectW p.1))
      (View.ld x2 (rectM 1 p.1)) (View.ld x2 (rectM 0 p.1))⟩) := by
  rfl
end tiles

/-- The scale of a row. -/
theorem scale_at (x0 : Vec Ideal S512x2048 .f32) (y : S512x1.Idx) :
    k0_pay1 x0 y = Ideal.rsqrt (Ideal.div (∑ k : Fin 2048, (x0 (ix2 (y 0) k) * x0 (ix2 (y 0) k) : EReal)) (Ideal.ofBits .f32 0x45000000#32) + Ideal.ofBits .f32 0x358637BD#32) := by
  unfold k0_pay1
  pointwise

/-- A tile at an index. -/
theorem tile_at (r : Fin 8) (g : FVec Ideal S512x1 .f32) (x : Vec Ideal S64x128 .f32) (w : Vec Ideal S1x1x128 .f32) (s b : Vec Ideal S1x1x1x128 .f32) (y : S1x64x128.Idx)
    (a : Fin 512) (ha : a.val = r.val * 64 + (y 1).val) :
    tile r g x w s b y = (x (ix2 (y 1) (y 2)) * g (ix2 a 0) * w (ix3 0 0 (y 2)) * (1 + s (ix4 0 0 0 (y 2))) + b (ix4 0 0 0 (y 2)) : EReal) := by
  unfold tile
  pointwise
  rw [show a = ⟨r.val * 64 + (y 1).val, ha ▸ a.isLt⟩ from Fin.ext ha]

/-- What the tiles make of a block. -/
def block (x0 : Vec Ideal S512x2048 .f32) (x1 : Vec Ideal S1x1x2048 .f32) (x2 : Vec Ideal S1x1x3x2048 .f32) : Vec Ideal S1x512x2048 .bf16 := fun y =>
  (normed (fun l => x0 (ix2 (y 1) l)) (fun l => x1 (ix3 0 0 l)) (y 2) * (1 + x2 (ix4 0 0 1 (y 2))) + x2 (ix4 0 0 0 (y 2)) : EReal)

theorem block_eq (x0 : Vec Ideal S512x2048 .f32) (x1 : Vec Ideal S1x1x2048 .f32) (x2 : Vec Ideal S1x1x3x2048 .f32) (y : S1x512x2048.Idx) :
    out0_3 x0 x1 x2 y = block x0 x1 x2 y := by
  rw [out_tiles]
  refine View.canon_apply_of_pieces (block x0 x1 x2) _ ?_ y ?_
  · intro p hp x
    obtain ⟨⟨l, r⟩, -, rfl⟩ := List.mem_map.mp hp
    have b1 : (x 1).val < 64 := (x 1).isLt
    have b2 : (x 2).val < 128 := (x 2).isLt
    have e1 : (rectO r l).emb x 1 = (⟨r.val * 64 + (x 1).val, by omega⟩ : Fin 512) := Fin.ext (congrArg (r.val * 64 + ·) (Nat.one_mul _))
    have e2 : (rectO r l).emb x 2 = (⟨l.val * 128 + (x 2).val, by omega⟩ : Fin 2048) := Fin.ext (congrArg (l.val * 128 + ·) (Nat.one_mul _))
    refine (tile_at r _ _ _ _ _ x ⟨r.val * 64 + (x 1).val, by omega⟩ rfl).trans ?_
    rw [scale_at]
    unfold block normed
    rw [e1, e2]
    have ex : View.ld x0 (rectX r l) (ix2 (x 1) (x 2)) = x0 (ix2 ⟨r.val * 64 + (x 1).val, by omega⟩ ⟨l.val * 128 + (x 2).val, by omega⟩) := by
      refine congrArg x0 (funext fun ax => ?_)
      fin_cases ax
      · exact Fin.ext (congrArg (r.val * 64 + ·) (Nat.one_mul _))
      · exact Fin.ext (congrArg (l.val * 128 + ·) (Nat.one_mul _))
    have ew : View.ld x1 (rectW l) (ix3 0 0 (x 2)) = x1 (ix3 0 0 ⟨l.val * 128 + (x 2).val, by omega⟩) := by
      refine congrArg x1 (funext fun ax => ?_)
      fin_cases ax
      · exact rfl
      · exact rfl
      · exact Fin.ext (congrArg (l.val * 128 + ·) (Nat.one_mul _))
    have em : ∀ j : Fin 3, View.ld x2 (rectM j l) (ix4 0 0 0 (x 2)) = x2 (ix4 0 0 j ⟨l.val * 128 + (x 2).val, by omega⟩) := by
      intro j
      refine congrArg x2 (funext fun ax => ?_)
      fin_cases ax
      · exact rfl
      · exact rfl
      · exact rfl
      · exact Fin.ext (congrArg (l.val * 128 + ·) (Nat.one_mul _))
    have e0 : ∀ i, View.ld x0 r0_0 i = x0 i := by
      intro i
      refine congrArg x0 (funext fun ax => ?_)
      fin_cases ax
      · exact Fin.ext ((Nat.zero_add _).trans (Nat.one_mul _))
      · exact Fin.ext ((Nat.zero_add _).trans (Nat.one_mul _))
    rw [ex, ew, em, em]
    simp only [e0]
    rfl
  · have b0 : (y 0).val < 1 := (y 0).isLt
    have b1 : (y 1).val < 512 := (y 1).isLt
    have b2 : (y 2).val < 2048 := (y 2).isLt
    refine ⟨_, List.mem_map.mpr ⟨(⟨(y 2).val / 128, by omega⟩, ⟨(y 1).val / 64, by omega⟩), mem_all _, rfl⟩, (LoadRect.mem_set _).mpr fun ax => ?_⟩
    fin_cases ax
    · exact ⟨0, by show 0 < 1; omega, by show (y 0).val = 0 + 1 * 0; omega⟩
    · exact ⟨(y 1).val % 64, Nat.mod_lt _ (by decide), by show (y 1).val = (y 1).val / 64 * 64 + 1 * ((y 1).val % 64); omega⟩
    · exact ⟨(y 2).val % 128, Nat.mod_lt _ (by decide), by show (y 2).val = (y 2).val / 128 * 128 + 1 * ((y 2).val % 128); omega⟩

variable (m : (ℓ : Loc nD τ sig) → Buf (Elt Ideal) ℓ)

/-- The arguments: the rows, the norm's weights and the modulation. -/
abbrev allRows (c : Dev nD) : Vec Ideal S8192x2048 .f32 := m ((c : Thread nD τ).loc main_arg0)
abbrev allScales (c : Dev nD) : Vec Ideal S4x1x2048 .f32 := m ((c : Thread nD τ).loc main_arg1)
abbrev allMods (c : Dev nD) : Vec Ideal S4x4x3x2048 .f32 := m ((c : Thread nD τ).loc main_arg2)

/-- The kernel's result. -/
def G (c : Dev nD) : Vec Ideal S1x8192x2048 .bf16 := fun i =>
  have h : (i 1).val / 2048 < 4 := by have : (i 1).val < 8192 := (i 1).isLt; omega
  (normed (fun l => allRows m c (ix2 (i 1) l)) (fun l => allScales m c (ix3 1 0 l)) (i 2) * (1 + allMods m c (ix4 1 ⟨(i 1).val / 2048, h⟩ 1 (i 2)))
    + allMods m c (ix4 1 ⟨(i 1).val / 2048, h⟩ 0 (i 2)) : EReal)

/-- What the kernel leaves in its result. -/
theorem G_eq (c : Dev nD) : (dats m 0 c).arrAt 3 cfg0.N = G m c := by
  have idx : ∀ t : Fin cfg0.N, win0_0.index t = ![t.val, 0] ∧ win0_1.index t = ![1, 0, 0] ∧ win0_2.index t = ![1, t.val / 4, 0, 0] ∧ win0_3.index t = ![0, t.val, 0] :=
    (by decide +kernel : ∀ t : Fin grid0.N, win0_0.index t = ![t.val, 0] ∧ win0_1.index t = ![1, 0, 0] ∧ win0_2.index t = ![1, t.val / 4, 0, 0] ∧ win0_3.index t = ![0, t.val, 0])
  refine (dats m 0 c).arrAt_eq_of_covers 3 _ (by decide +kernel) fun t hf y => ?_
  obtain ⟨e0, e1, e2, e3⟩ := idx t
  blk_simp
  rw [after0_3, block_eq]
  have b1 : (y 1).val < 512 := (y 1).isLt
  have ht : t.val * 512 + (y 1).val < 8192 := by
    have := t.isLt.trans_eq (show cfg0.N = 16 from N_0); omega
  unfold block G
  refine congrArg₂ (fun x y : EReal => x + y) (congrArg₂ (fun x y : EReal => x * (1 + y)) ?_ ?_) ?_
  · have he : (win0_3.blk t).view.emb y = (ix3 0 ⟨t.val * 512 + (y 1).val, ht⟩ (y 2) : S1x8192x2048.Idx) := by
      blk_ext [e3]
    rw [he]
    refine congrArg₂ (fun s f => normed s f (y 2)) (funext fun l => ?_) (funext fun l => ?_)
    · blk_ext [iblk, V, e0, e3]
    · blk_ext [iblk, V, e1, e3]
  · blk_ext [iblk, V, e2, e3]
    all_goals omega
  · blk_ext [iblk, V, e2, e3]
    all_goals omega

end Cert.ModulateIdeal.Value

end
-- ==== Proof.lean ====
/-
  The certificate: the dilated attention, the two input projections, the two output projections, the modulation and the first norm
  of a block-attention layer compute what their references say.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_finite
public import proofs.«01_k».proof.Proof.Gen.InprojA.Frame
public import proofs.«01_k».proof.Proof.Gen.InprojAIdeal.Value
public import proofs.«01_k».proof.Proof.Gen.InprojArefIdeal.Run
public import proofs.«01_k».proof.Proof.Gen.InprojB.Frame
public import proofs.«01_k».proof.Proof.Gen.InprojBIdeal.Value
public import proofs.«01_k».proof.Proof.Gen.InprojBrefIdeal.Run
public import proofs.«01_k».proof.Proof.Gen.Outproj.Frame
public import proofs.«01_k».proof.Proof.Gen.OutprojIdeal.Value
public import proofs.«01_k».proof.Proof.Gen.OutprojrefIdeal.Run
public import proofs.«01_k».proof.Proof.Gen.Outfinal.Frame
public import proofs.«01_k».proof.Proof.Gen.OutfinalIdeal.Value
public import proofs.«01_k».proof.Proof.Gen.OutfinalrefIdeal.Run
public import proofs.«01_k».proof.Proof.Gen.Modulation.Frame
public import proofs.«01_k».proof.Proof.Gen.ModulationIdeal.Value
public import proofs.«01_k».proof.Proof.Gen.ModulationrefIdeal.Run
public import proofs.«01_k».proof.Proof.Gen.Modulate.Frame
public import proofs.«01_k».proof.Proof.Gen.ModulateIdeal.Value
public import proofs.«01_k».proof.Proof.Gen.ModulaterefIdeal.Run
public import proofs.«01_k».proof.Proof.InputsReal
public import proofs.«01_k».proof.Proof.DilatedKernel
public import proofs.«01_k».proof.Proof.ReferenceOut
public import proofs.«01_k».proof.Proof.InprojA
public import proofs.«01_k».proof.Proof.InprojB
public import proofs.«01_k».proof.Proof.Outproj
public import proofs.«01_k».proof.Proof.Outfinal
public import proofs.«01_k».proof.Proof.Modulation
public import proofs.«01_k».proof.Proof.Modulate
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves_Kernel_KernelIdeal : preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl⟩

theorem algebraic_KernelIdeal_ReferenceIdeal : algebraic_KernelIdeal_ReferenceIdeal_pre_finite := by
  intro m ρ m' ρ' hpre hagree
  have hreal := fun c => Cert.Pre_finite.entries_real _ _ (hpre c)
  refine ⟨fun c => Cert.KernelIdeal.Value.G0 m c, ?_, ?_⟩
  · exact (θ_run Cert.KernelIdeal.defs _ _).mono (fun _ h c => ⟨(h c).1.trans (Cert.KernelIdeal.Value.G0_eq m c (hreal c).1 (hreal c).2), (h c).2⟩)
      (Cert.KernelIdeal.Value.run_blocks (F := Ideal) m ρ)
  · refine (θ_run Cert.ReferenceIdeal.defs _ _).mono (fun _ h c => ⟨(h c).1.trans ?_, (h c).2⟩) (Cert.ReferenceIdeal.Value.run (F := Ideal) m' ρ')
    have e0 : Cert.ReferenceIdeal.Value.slopes (StableHlo.launchContents m' c) = Cert.KernelIdeal.Value.slopes m c := (hagree c).1
    have e1 : Cert.ReferenceIdeal.Value.proj (StableHlo.launchContents m' c) = Cert.KernelIdeal.Value.proj m c := (hagree c).2
    refine (Cert.ReferenceIdeal.Value.val3_main_v130 (StableHlo.launchContents m' c)).symm.trans ?_
    refine (Cert.ReferenceIdeal.Value.result_eq (StableHlo.launchContents m' c) (fun i => e1 ▸ (hreal c).2 i) (fun i => e0 ▸ (hreal c).1 i)).trans ?_
    show Cert.ReferenceIdeal.Value.result (StableHlo.launchContents m' c) = _
    unfold Cert.ReferenceIdeal.Value.result
    rw [e0, e1]
    rfl

theorem quiescent_InprojArefIdeal : quiescent_InprojArefIdeal := fun m ρ _ =>
  (θ_run Cert.InprojArefIdeal.defs _ _).mono (fun r h => ⟨fun c => (h c).2, sem_eq_zero_of_no_sems (by decide) r.2⟩)
    (Cert.InprojArefIdeal.Value.run (F := Ideal) m ρ)

theorem quiescent_InprojBrefIdeal : quiescent_InprojBrefIdeal := fun m ρ _ =>
  (θ_run Cert.InprojBrefIdeal.defs _ _).mono (fun r h => ⟨fun c => (h c).2, sem_eq_zero_of_no_sems (by decide) r.2⟩)
    (Cert.InprojBrefIdeal.Value.run (F := Ideal) m ρ)

theorem algebraic_InprojAIdeal_InprojArefIdeal : algebraic_InprojAIdeal_InprojArefIdeal := by
  intro m ρ m' ρ' _ hagree
  refine ⟨_, Cert.InprojAIdeal.Value.run (F := Ideal) m ρ, ?_⟩
  refine (θ_run Cert.InprojArefIdeal.defs _ _).mono (fun _ h c => ⟨?_, (h c).2⟩) (Cert.InprojArefIdeal.Value.run (F := Ideal) m' ρ')
  rw [(h c).1]
  simp only [hagree c]
  rw [Cert.InprojAIdeal.Value.G2_eq]
  funext i
  clean_types
  pointwise
  rw [(hagree c).1, (hagree c).2]
  have h1 : (i 1).val < 20480 := (i 1).isLt
  split_ifs
  all_goals
    refine Finset.sum_congr (M := EReal) rfl fun k _ => congrArg₂ (fun x y : EReal => x * y)
      (InprojAIdeal.Value.row_at _ _ _ _ _ ?_) (InprojAIdeal.Value.col_at _ _ _ _ ?_)
    · show (if (i 1).val < 18432 then (i 1).val / 6144 else 0) = _
      split_ifs <;> simp <;> omega
    · simp <;> omega

theorem algebraic_InprojBIdeal_InprojBrefIdeal : algebraic_InprojBIdeal_InprojBrefIdeal := by
  intro m ρ m' ρ' _ hagree
  refine ⟨_, Cert.InprojBIdeal.Value.run (F := Ideal) m ρ, ?_⟩
  refine (θ_run Cert.InprojBrefIdeal.defs _ _).mono (fun _ h c => ⟨?_, (h c).2⟩) (Cert.InprojBrefIdeal.Value.run (F := Ideal) m' ρ')
  rw [(h c).1]
  simp only [hagree c]
  rw [Cert.InprojBIdeal.Value.G2_eq]
  funext i
  clean_types
  pointwise

theorem quiescent_OutprojrefIdeal : quiescent_OutprojrefIdeal := fun m ρ _ =>
  (θ_run Cert.OutprojrefIdeal.defs _ _).mono (fun r h => ⟨fun c => (h c).2, sem_eq_zero_of_no_sems (by decide) r.2⟩)
    (Cert.OutprojrefIdeal.Value.run (F := Ideal) m ρ)

theorem quiescent_OutfinalrefIdeal : quiescent_OutfinalrefIdeal := fun m ρ _ =>
  (θ_run Cert.OutfinalrefIdeal.defs _ _).mono (fun r h => ⟨fun c => (h c).2, sem_eq_zero_of_no_sems (by decide) r.2⟩)
    (Cert.OutfinalrefIdeal.Value.run (F := Ideal) m ρ)

theorem algebraic_OutprojIdeal_OutprojrefIdeal : algebraic_OutprojIdeal_OutprojrefIdeal := by
  intro m ρ m' ρ' _ hagree
  refine ⟨_, Cert.OutprojIdeal.Value.run (F := Ideal) m ρ, ?_⟩
  refine (θ_run Cert.OutprojrefIdeal.defs _ _).mono (fun _ h c => ⟨?_, (h c).2⟩) (Cert.OutprojrefIdeal.Value.run (F := Ideal) m' ρ')
  rw [(h c).1]
  simp only [hagree c]
  rw [Cert.OutprojIdeal.Value.G4_eq]
  funext i
  clean_types
  pointwise

theorem algebraic_OutfinalIdeal_OutfinalrefIdeal : algebraic_OutfinalIdeal_OutfinalrefIdeal := by
  intro m ρ m' ρ' _ hagree
  refine ⟨_, Cert.OutfinalIdeal.Value.run (F := Ideal) m ρ, ?_⟩
  refine (θ_run Cert.OutfinalrefIdeal.defs _ _).mono (fun _ h c => ⟨?_, (h c).2⟩) (Cert.OutfinalrefIdeal.Value.run (F := Ideal) m' ρ')
  rw [(h c).1]
  simp only [hagree c]
  rw [Cert.OutfinalIdeal.Value.G5_eq]
  funext i
  unfold Cert.Norm.normed
  clean_types
  pointwise

theorem quiescent_ModulationrefIdeal : quiescent_ModulationrefIdeal := fun m ρ _ =>
  (θ_run Cert.ModulationrefIdeal.defs _ _).mono (fun r h => ⟨fun c => (h c).2, sem_eq_zero_of_no_sems (by decide) r.2⟩)
    (Cert.ModulationrefIdeal.Value.run (F := Ideal) m ρ)

theorem algebraic_ModulationIdeal_ModulationrefIdeal : algebraic_ModulationIdeal_ModulationrefIdeal := by
  intro m ρ m' ρ' _ hagree
  refine ⟨fun c => Cert.ModulationIdeal.Value.G m c, ?_, ?_⟩
  · exact (θ_run Cert.ModulationIdeal.defs _ _).mono (fun _ h c => ⟨(h c).1.trans (Cert.ModulationIdeal.Value.G_eq m c), (h c).2⟩)
      (Cert.ModulationIdeal.Value.run_blocks (F := Ideal) m ρ)
  · refine (θ_run Cert.ModulationrefIdeal.defs _ _).mono (fun _ h c => ⟨?_, (h c).2⟩) (Cert.ModulationrefIdeal.Value.run (F := Ideal) m' ρ')
    rw [(h c).1]
    simp only [hagree c]
    funext i
    unfold Cert.ModulationIdeal.Value.G
    simp only [Cert.ModulationIdeal.Value.gated_eq]
    clean_types
    pointwise

theorem quiescent_ModulaterefIdeal : quiescent_ModulaterefIdeal := fun m ρ _ =>
  (θ_run Cert.ModulaterefIdeal.defs _ _).mono (fun r h => ⟨fun c => (h c).2, sem_eq_zero_of_no_sems (by decide) r.2⟩)
    (Cert.ModulaterefIdeal.Value.run (F := Ideal) m ρ)

theorem algebraic_ModulateIdeal_ModulaterefIdeal : algebraic_ModulateIdeal_ModulaterefIdeal := by
  intro m ρ m' ρ' _ hagree
  refine ⟨fun c => Cert.ModulateIdeal.Value.G m c, ?_, ?_⟩
  · exact (θ_run Cert.ModulateIdeal.defs _ _).mono (fun _ h c => ⟨(h c).1.trans (Cert.ModulateIdeal.Value.G_eq m c), (h c).2⟩)
      (Cert.ModulateIdeal.Value.run_blocks (F := Ideal) m ρ)
  · refine (θ_run Cert.ModulaterefIdeal.defs _ _).mono (fun _ h c => ⟨?_, (h c).2⟩) (Cert.ModulaterefIdeal.Value.run (F := Ideal) m' ρ')
    rw [(h c).1]
    simp only [hagree c]
    funext i
    unfold Cert.ModulateIdeal.Value.G Cert.Norm.normed
    clean_types
    pointwise

theorem claim : Cert.Claim := ⟨Cert.Kernel.Gen.facts, Cert.KernelIdeal.Gen.facts, Cert.ReferenceIdeal.Gen.facts,
  Cert.InprojA.Gen.facts, Cert.InprojAIdeal.Gen.facts, Cert.InprojArefIdeal.Gen.facts, Cert.InprojB.Gen.facts, Cert.InprojBIdeal.Gen.facts, Cert.InprojBrefIdeal.Gen.facts, Cert.Outproj.Gen.facts, Cert.OutprojIdeal.Gen.facts, Cert.OutprojrefIdeal.Gen.facts,
  Cert.Outfinal.Gen.facts, Cert.OutfinalIdeal.Gen.facts, Cert.OutfinalrefIdeal.Gen.facts, Cert.Modulation.Gen.facts, Cert.ModulationIdeal.Gen.facts, Cert.ModulationrefIdeal.Gen.facts, Cert.Modulate.Gen.facts, Cert.ModulateIdeal.Gen.facts, Cert.ModulaterefIdeal.Gen.facts, Cert.Pre_finite.Gen.facts,
  fun m ρ _ => Cert.Kernel.Gen.frame m ρ, fun m ρ _ => Cert.KernelIdeal.Gen.frame m ρ, fun m ρ _ => Cert.KernelIdeal.Gen.frame m ρ, quiescent_ReferenceIdeal, fun m ρ _ => quiescent_ReferenceIdeal m ρ trivial,
  fun m ρ _ => Cert.InprojA.Gen.frame m ρ, fun m ρ _ => Cert.InprojAIdeal.Gen.frame m ρ, quiescent_InprojArefIdeal, fun m ρ _ => Cert.InprojB.Gen.frame m ρ, fun m ρ _ => Cert.InprojBIdeal.Gen.frame m ρ, quiescent_InprojBrefIdeal,
  fun m ρ _ => Cert.Outproj.Gen.frame m ρ, fun m ρ _ => Cert.OutprojIdeal.Gen.frame m ρ, quiescent_OutprojrefIdeal, fun m ρ _ => Cert.Outfinal.Gen.frame m ρ, fun m ρ _ => Cert.OutfinalIdeal.Gen.frame m ρ, quiescent_OutfinalrefIdeal,
  fun m ρ _ => Cert.Modulation.Gen.frame m ρ, fun m ρ _ => Cert.ModulationIdeal.Gen.frame m ρ, quiescent_ModulationrefIdeal,
  fun m ρ _ => Cert.Modulate.Gen.frame m ρ, fun m ρ _ => Cert.ModulateIdeal.Gen.frame m ρ, quiescent_ModulaterefIdeal,
  preserves_Kernel_KernelIdeal, algebraic_KernelIdeal_ReferenceIdeal, (trivial : preserves_InprojA_InprojAIdeal), algebraic_InprojAIdeal_InprojArefIdeal, (trivial : preserves_InprojB_InprojBIdeal), algebraic_InprojBIdeal_InprojBrefIdeal,
  (trivial : preserves_Outproj_OutprojIdeal), algebraic_OutprojIdeal_OutprojrefIdeal, (trivial : preserves_Outfinal_OutfinalIdeal), algebraic_OutfinalIdeal_OutfinalrefIdeal,
  (trivial : preserves_Modulation_ModulationIdeal), algebraic_ModulationIdeal_ModulationrefIdeal,
  (trivial : preserves_Modulate_ModulateIdeal), algebraic_ModulateIdeal_ModulaterefIdeal⟩

end Cert.Proof

end
